-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Reference (m : (ℓ : Loc Cert.Reference.nD Cert.Reference.τ Cert.Reference.sig) → Buf (Elt Bits) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))
      ∧ r.2.sem = fun _ => 0)

def quiescent_Reference [hReference : Cert.Reference.Facts] : Prop :=
  ∀ (m : (ℓ : Loc Cert.Reference.nD Cert.Reference.τ Cert.Reference.sig) → Buf (Elt Bits) ℓ) (g : Dev Cert.Reference.nD → PrngReg), Pre_Reference m →
    θ_run (Cert.Reference.defs (F := Bits)) (onTc (τ := Cert.Reference.τ) (Cert.Reference.main (F := Bits))) ⟨m, fun _ => 0, g⟩ (fun r => (∀ c : Dev Cert.Reference.nD,
      r.2.mem ((c.tc : Thread Cert.Reference.nD Cert.Reference.τ).loc Cert.Reference.main_arg0) = m ((c.tc : Thread Cert.Reference.nD Cert.Reference.τ).loc Cert.Reference.main_arg0)
      ∧ r.2.mem ((c.tc : Thread Cert.Reference.nD Cert.Reference.τ).loc Cert.Reference.main_arg1) = m ((c.tc : Thread Cert.Reference.nD Cert.Reference.τ).loc Cert.Reference.main_arg1)
      ∧ r.2.mem ((c.tc : Thread Cert.Reference.nD Cert.Reference.τ).loc Cert.Reference.main_arg2) = m ((c.tc : Thread Cert.Reference.nD Cert.Reference.τ).loc Cert.Reference.main_arg2)
      ∧ r.2.mem ((c.tc : Thread Cert.Reference.nD Cert.Reference.τ).loc Cert.Reference.main_arg3) = m ((c.tc : Thread Cert.Reference.nD Cert.Reference.τ).loc Cert.Reference.main_arg3)
      ∧ r.2.mem ((c.tc : Thread Cert.Reference.nD Cert.Reference.τ).loc Cert.Reference.main_arg4) = m ((c.tc : Thread Cert.Reference.nD Cert.Reference.τ).loc Cert.Reference.main_arg4)
      ∧ r.2.mem ((c.tc : Thread Cert.Reference.nD Cert.Reference.τ).loc Cert.Reference.main_arg5) = m ((c.tc : Thread Cert.Reference.nD Cert.Reference.τ).loc Cert.Reference.main_arg5)
      ∧ r.2.mem ((c.tc : Thread Cert.Reference.nD Cert.Reference.τ).loc Cert.Reference.main_arg6) = m ((c.tc : Thread Cert.Reference.nD Cert.Reference.τ).loc Cert.Reference.main_arg6)
      ∧ r.2.mem ((c.tc : Thread Cert.Reference.nD Cert.Reference.τ).loc Cert.Reference.main_arg7) = m ((c.tc : Thread Cert.Reference.nD Cert.Reference.τ).loc Cert.Reference.main_arg7)
      ∧ r.2.mem ((c.tc : Thread Cert.Reference.nD Cert.Reference.τ).loc Cert.Reference.main_arg8) = m ((c.tc : Thread Cert.Reference.nD Cert.Reference.τ).loc Cert.Reference.main_arg8)
      ∧ r.2.mem ((c.tc : Thread Cert.Reference.nD Cert.Reference.τ).loc Cert.Reference.main_arg9) = m ((c.tc : Thread Cert.Reference.nD Cert.Reference.τ).loc Cert.Reference.main_arg9)
      ∧ r.2.mem ((c.tc : Thread Cert.Reference.nD Cert.Reference.τ).loc Cert.Reference.main_arg10) = m ((c.tc : Thread Cert.Reference.nD Cert.Reference.τ).loc Cert.Reference.main_arg10)
      ∧ r.2.mem ((c.tc : Thread Cert.Reference.nD Cert.Reference.τ).loc Cert.Reference.main_arg11) = m ((c.tc : Thread Cert.Reference.nD Cert.Reference.τ).loc Cert.Reference.main_arg11))
      ∧ r.2.sem = fun _ => 0)

def preserves_Kernel_KernelIdeal : Prop :=
  IdealRules.named_const.Statement Cert.KernelIdeal.κ "inv_sqrt_2" .f32 0x3F3504F3#32 (((Real.sqrt 2)⁻¹ : ℝ) : EReal)

def preserves_Reference_ReferenceIdeal : Prop :=
  IdealRules.named_const.Statement Cert.ReferenceIdeal.κ "sqrt_2" .f32 0x3FB504F3#32 ((Real.sqrt 2 : ℝ) : EReal)

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v23)) (v1 : (c : Dev Cert.KernelIdeal.nD) → Buf (Elt Ideal) ((c.tc : Thread Cert.KernelIdeal.nD Cert.KernelIdeal.τ).loc Cert.KernelIdeal.main_v25)) (v2 : (c : Dev Cert.KernelIdeal.nD) → Buf (Elt Ideal) ((c.tc : Thread Cert.KernelIdeal.nD Cert.KernelIdeal.τ).loc Cert.KernelIdeal.main_v27)) (v3 : (c : Dev Cert.KernelIdeal.nD) → Buf (Elt Ideal) ((c.tc : Thread Cert.KernelIdeal.nD Cert.KernelIdeal.τ).loc Cert.KernelIdeal.main_v31)) (v4 : (c : Dev Cert.KernelIdeal.nD) → Buf (Elt Ideal) ((c.tc : Thread Cert.KernelIdeal.nD Cert.KernelIdeal.τ).loc Cert.KernelIdeal.main_v32)) (v5 : (c : Dev Cert.KernelIdeal.nD) → Buf (Elt Ideal) ((c.tc : Thread Cert.KernelIdeal.nD Cert.KernelIdeal.τ).loc Cert.KernelIdeal.main_v34)) (v6 : (c : Dev Cert.KernelIdeal.nD) → Buf (Elt Ideal) ((c.tc : Thread Cert.KernelIdeal.nD Cert.KernelIdeal.τ).loc Cert.KernelIdeal.main_v35)) (v7 : (c : Dev Cert.KernelIdeal.nD) → Buf (Elt Ideal) ((c.tc : Thread Cert.KernelIdeal.nD Cert.KernelIdeal.τ).loc Cert.KernelIdeal.main_v37)) (v8 : (c : Dev Cert.KernelIdeal.nD) → Buf (Elt Ideal) ((c.tc : Thread Cert.KernelIdeal.nD Cert.KernelIdeal.τ).loc Cert.KernelIdeal.main_v38)) (v9 : (c : Dev Cert.KernelIdeal.nD) → Buf (Elt Ideal) ((c.tc : Thread Cert.KernelIdeal.nD Cert.KernelIdeal.τ).loc Cert.KernelIdeal.main_v40)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v23) = v0 c
          ∧ r.2.mem ((c.tc : Thread Cert.KernelIdeal.nD Cert.KernelIdeal.τ).loc Cert.KernelIdeal.main_v25) = v1 c
          ∧ r.2.mem ((c.tc : Thread Cert.KernelIdeal.nD Cert.KernelIdeal.τ).loc Cert.KernelIdeal.main_v27) = v2 c
          ∧ r.2.mem ((c.tc : Thread Cert.KernelIdeal.nD Cert.KernelIdeal.τ).loc Cert.KernelIdeal.main_v31) = v3 c
          ∧ r.2.mem ((c.tc : Thread Cert.KernelIdeal.nD Cert.KernelIdeal.τ).loc Cert.KernelIdeal.main_v32) = v4 c
          ∧ r.2.mem ((c.tc : Thread Cert.KernelIdeal.nD Cert.KernelIdeal.τ).loc Cert.KernelIdeal.main_v34) = v5 c
          ∧ r.2.mem ((c.tc : Thread Cert.KernelIdeal.nD Cert.KernelIdeal.τ).loc Cert.KernelIdeal.main_v35) = v6 c
          ∧ r.2.mem ((c.tc : Thread Cert.KernelIdeal.nD Cert.KernelIdeal.τ).loc Cert.KernelIdeal.main_v37) = v7 c
          ∧ r.2.mem ((c.tc : Thread Cert.KernelIdeal.nD Cert.KernelIdeal.τ).loc Cert.KernelIdeal.main_v38) = v8 c
          ∧ r.2.mem ((c.tc : Thread Cert.KernelIdeal.nD Cert.KernelIdeal.τ).loc Cert.KernelIdeal.main_v40) = v9 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0_0) = v0 c
          ∧ r.2.mem ((c.tc : Thread Cert.ReferenceIdeal.nD Cert.ReferenceIdeal.τ).loc Cert.ReferenceIdeal.main_v0_1) = v1 c
          ∧ r.2.mem ((c.tc : Thread Cert.ReferenceIdeal.nD Cert.ReferenceIdeal.τ).loc Cert.ReferenceIdeal.main_v0_2) = v2 c
          ∧ r.2.mem ((c.tc : Thread Cert.ReferenceIdeal.nD Cert.ReferenceIdeal.τ).loc Cert.ReferenceIdeal.main_v0_3) = v3 c
          ∧ r.2.mem ((c.tc : Thread Cert.ReferenceIdeal.nD Cert.ReferenceIdeal.τ).loc Cert.ReferenceIdeal.main_v0_4) = v4 c
          ∧ r.2.mem ((c.tc : Thread Cert.ReferenceIdeal.nD Cert.ReferenceIdeal.τ).loc Cert.ReferenceIdeal.main_v0_5) = v5 c
          ∧ r.2.mem ((c.tc : Thread Cert.ReferenceIdeal.nD Cert.ReferenceIdeal.τ).loc Cert.ReferenceIdeal.main_v0_6) = v6 c
          ∧ r.2.mem ((c.tc : Thread Cert.ReferenceIdeal.nD Cert.ReferenceIdeal.τ).loc Cert.ReferenceIdeal.main_v0_7) = v7 c
          ∧ r.2.mem ((c.tc : Thread Cert.ReferenceIdeal.nD Cert.ReferenceIdeal.τ).loc Cert.ReferenceIdeal.main_v0_8) = v8 c
          ∧ r.2.mem ((c.tc : Thread Cert.ReferenceIdeal.nD Cert.ReferenceIdeal.τ).loc Cert.ReferenceIdeal.main_v0_9) = v9 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hReference : Cert.Reference.Facts),
    quiescent_Kernel (hKernel := hKernel)
    ∧ quiescent_KernelIdeal (hKernelIdeal := hKernelIdeal)
    ∧ quiescent_ReferenceIdeal (hReferenceIdeal := hReferenceIdeal)
    ∧ quiescent_Reference (hReference := hReference)
    ∧ preserves_Kernel_KernelIdeal
    ∧ preserves_Reference_ReferenceIdeal
    ∧ algebraic_KernelIdeal_ReferenceIdeal (hKernelIdeal := hKernelIdeal) (hReferenceIdeal := hReferenceIdeal)
-- ==== Kernel.lean ====
abbrev S4096x16x768 : Shape := ⟨3, ![4096, 16, 768]⟩
abbrev S2x768 : Shape := ⟨2, ![2, 768]⟩
abbrev S2x16x768x4 : Shape := ⟨4, ![2, 16, 768, 4]⟩
abbrev S2x16x4 : Shape := ⟨3, ![2, 16, 4]⟩
abbrev S2x16x4x768x1536 : Shape := ⟨5, ![2, 16, 4, 768, 1536]⟩
abbrev S2x16x4x1536 : Shape := ⟨4, ![2, 16, 4, 1536]⟩
abbrev S2x16x4x1536x768 : Shape := ⟨5, ![2, 16, 4, 1536, 768]⟩
abbrev S2x16x4x768 : Shape := ⟨4, ![2, 16, 4, 768]⟩
abbrev S16x4096x768 : Shape := ⟨3, ![16, 4096, 768]⟩
abbrev S16x4096x16x48 : Shape := ⟨4, ![16, 4096, 16, 48]⟩
abbrev S2x1x768 : Shape := ⟨3, ![2, 1, 768]⟩
abbrev S_ : Shape := ⟨0, ![]⟩
abbrev S2x16x768x128 : Shape := ⟨4, ![2, 16, 768, 128]⟩
abbrev S2x16x128 : Shape := ⟨3, ![2, 16, 128]⟩
abbrev S2x16x1x128 : Shape := ⟨4, ![2, 16, 1, 128]⟩
abbrev S16x4096x128 : Shape := ⟨3, ![16, 4096, 128]⟩
abbrev S16x4096x1 : Shape := ⟨3, ![16, 4096, 1]⟩
abbrev S16x4x4096x1536 : Shape := ⟨4, ![16, 4, 4096, 1536]⟩
abbrev S1x256x768 : Shape := ⟨3, ![1, 256, 768]⟩
abbrev S1x1x768 : Shape := ⟨3, ![1, 1, 768]⟩
abbrev S1x1x768x128 : Shape := ⟨4, ![1, 1, 768, 128]⟩
abbrev S1x1x1x128 : Shape := ⟨4, ![1, 1, 1, 128]⟩
abbrev S1x1x4x768x1536 : Shape := ⟨5, ![1, 1, 4, 768, 1536]⟩
abbrev S1x1x4x1536 : Shape := ⟨4, ![1, 1, 4, 1536]⟩
abbrev S1x1x4x1536x768 : Shape := ⟨5, ![1, 1, 4, 1536, 768]⟩
abbrev S1x1x4x768 : Shape := ⟨4, ![1, 1, 4, 768]⟩
abbrev S1x256x128 : Shape := ⟨3, ![1, 256, 128]⟩
abbrev S1x256x1 : Shape := ⟨3, ![1, 256, 1]⟩
abbrev S1x4x256x1536 : Shape := ⟨4, ![1, 4, 256, 1536]⟩
abbrev S256x768 : Shape := ⟨2, ![256, 768]⟩
abbrev S1x768 : Shape := ⟨2, ![1, 768]⟩
abbrev S256 : Shape := ⟨1, ![256]⟩
abbrev S256x1 : Shape := ⟨2, ![256, 1]⟩
abbrev S768x128 : Shape := ⟨2, ![768, 128]⟩
abbrev S256x128 : Shape := ⟨2, ![256, 128]⟩
abbrev S1x128 : Shape := ⟨2, ![1, 128]⟩
abbrev S1x1x1x768x1536 : Shape := ⟨5, ![1, 1, 1, 768, 1536]⟩
abbrev S768x1536 : Shape := ⟨2, ![768, 1536]⟩
abbrev S256x1536 : Shape := ⟨2, ![256, 1536]⟩
abbrev S1x1x1x1536 : Shape := ⟨4, ![1, 1, 1, 1536]⟩
abbrev S1x1536 : Shape := ⟨2, ![1, 1536]⟩
abbrev S1x1x1x1536x768 : Shape := ⟨5, ![1, 1, 1, 1536, 768]⟩
abbrev S1536x768 : Shape := ⟨2, ![1536, 768]⟩
abbrev S1x1x1x768 : Shape := ⟨4, ![1, 1, 1, 768]⟩
abbrev S1x1x256x1536 : Shape := ⟨4, ![1, 1, 256, 1536]⟩
abbrev S16x1x128 : Shape := ⟨3, ![16, 1, 128]⟩
abbrev S1x1x128 : Shape := ⟨3, ![1, 1, 128]⟩
abbrev S128 : Shape := ⟨1, ![128]⟩
abbrev S4096x16x1 : Shape := ⟨3, ![4096, 16, 1]⟩
abbrev S4096x16 : Shape := ⟨2, ![4096, 16]⟩
abbrev S4096x16x128 : Shape := ⟨3, ![4096, 16, 128]⟩
abbrev S4096x16x4 : Shape := ⟨3, ![4096, 16, 4]⟩
abbrev S16x1x4 : Shape := ⟨3, ![16, 1, 4]⟩
abbrev S16x4 : Shape := ⟨2, ![16, 4]⟩
abbrev S4096x16x4x1536 : Shape := ⟨4, ![4096, 16, 4, 1536]⟩

abbrev nBuf : Space → Nat
  | .hbm => 71
  | .vmem => 66
  | .smem => 0
  | _ => 0

abbrev bufTy : (tb : Table) → Fin (tcTables nBuf tb) → BufTy
  | .hbm, ⟨0, _⟩ => ⟨S4096x16x768, .bf16⟩
  | .hbm, ⟨1, _⟩ => ⟨S2x768, .f32⟩
  | .hbm, ⟨2, _⟩ => ⟨S2x768, .f32⟩
  | .hbm, ⟨3, _⟩ => ⟨S2x16x768x4, .f32⟩
  | .hbm, ⟨4, _⟩ => ⟨S2x16x4, .f32⟩
  | .hbm, ⟨5, _⟩ => ⟨S2x16x4x768x1536, .fp8e4m3⟩
  | .hbm, ⟨6, _⟩ => ⟨S2x16x4x1536, .f32⟩
  | .hbm, ⟨7, _⟩ => ⟨S2x16x4x1536, .f32⟩
  | .hbm, ⟨8, _⟩ => ⟨S2x16x4x1536x768, .fp8e4m3⟩
  | .hbm, ⟨9, _⟩ => ⟨S2x16x4x768, .f32⟩
  | .hbm, ⟨10, _⟩ => ⟨S2x768, .f32⟩
  | .hbm, ⟨11, _⟩ => ⟨S2x768, .f32⟩
  | .hbm, ⟨12, _⟩ => ⟨S16x4096x768, .bf16⟩
  | .hbm, ⟨13, _⟩ => ⟨S16x4096x16x48, .bf16⟩
  | .hbm, ⟨14, _⟩ => ⟨S16x4096x16x48, .bf16⟩
  | .hbm, ⟨15, _⟩ => ⟨S16x4096x768, .bf16⟩
  | .hbm, ⟨16, _⟩ => ⟨S2x1x768, .f32⟩
  | .hbm, ⟨17, _⟩ => ⟨S2x1x768, .f32⟩
  | .hbm, ⟨18, _⟩ => ⟨S_, .i32⟩
  | .hbm, ⟨19, _⟩ => ⟨S_, .f32⟩
  | .hbm, ⟨20, _⟩ => ⟨S2x16x768x128, .f32⟩
  | .hbm, ⟨21, _⟩ => ⟨S_, .i32⟩
  | .hbm, ⟨22, _⟩ => ⟨S_, .f32⟩
  | .hbm, ⟨23, _⟩ => ⟨S2x16x128, .f32⟩
  | .hbm, ⟨24, _⟩ => ⟨S2x16x1x128, .f32⟩
  | .hbm, ⟨25, _⟩ => ⟨S2x1x768, .f32⟩
  | .hbm, ⟨26, _⟩ => ⟨S2x1x768, .f32⟩
  | .hbm, ⟨27, _⟩ => ⟨S16x4096x768, .f32⟩
  | .hbm, ⟨28, _⟩ => ⟨S16x4096x768, .f32⟩
  | .hbm, ⟨29, _⟩ => ⟨S16x4096x128, .f32⟩
  | .hbm, ⟨30, _⟩ => ⟨S16x4096x768, .fp8e4m3⟩
  | .hbm, ⟨31, _⟩ => ⟨S16x4096x1, .f32⟩
  | .hbm, ⟨32, _⟩ => ⟨S16x4096x128, .f32⟩
  | .hbm, ⟨33, _⟩ => ⟨S16x4x4096x1536, .fp8e4m3⟩
  | .hbm, ⟨34, _⟩ => ⟨S16x4096x16x48, .f32⟩
  | .hbm, ⟨35, _⟩ => ⟨S16x4096x16x48, .f32⟩
  | .hbm, ⟨36, _⟩ => ⟨S16x4096x768, .f32⟩
  | .hbm, ⟨37, _⟩ => ⟨S2x1x768, .f32⟩
  | .hbm, ⟨38, _⟩ => ⟨S2x1x768, .f32⟩
  | .hbm, ⟨39, _⟩ => ⟨S_, .i32⟩
  | .hbm, ⟨40, _⟩ => ⟨S_, .f32⟩
  | .hbm, ⟨41, _⟩ => ⟨S2x16x768x128, .f32⟩
  | .hbm, ⟨42, _⟩ => ⟨S_, .i32⟩
  | .hbm, ⟨43, _⟩ => ⟨S_, .f32⟩
  | .hbm, ⟨44, _⟩ => ⟨S2x16x128, .f32⟩
  | .hbm, ⟨45, _⟩ => ⟨S2x16x1x128, .f32⟩
  | .hbm, ⟨46, _⟩ => ⟨S2x1x768, .f32⟩
  | .hbm, ⟨47, _⟩ => ⟨S2x1x768, .f32⟩
  | .hbm, ⟨48, _⟩ => ⟨S16x4096x768, .fp8e4m3⟩
  | .hbm, ⟨49, _⟩ => ⟨S16x4096x1, .f32⟩
  | .hbm, ⟨50, _⟩ => ⟨S16x4096x128, .f32⟩
  | .hbm, ⟨51, _⟩ => ⟨S16x1x128, .f32⟩
  | .hbm, ⟨52, _⟩ => ⟨S4096x16x768, .fp8e4m3⟩
  | .hbm, ⟨53, _⟩ => ⟨S4096x16x1, .f32⟩
  | .hbm, ⟨54, _⟩ => ⟨S4096x16, .f32⟩
  | .hbm, ⟨55, _⟩ => ⟨S4096x16x128, .f32⟩
  | .hbm, ⟨56, _⟩ => ⟨S4096x16x4, .f32⟩
  | .hbm, ⟨57, _⟩ => ⟨S16x1x4, .f32⟩
  | .hbm, ⟨58, _⟩ => ⟨S16x4, .f32⟩
  | .hbm, ⟨59, _⟩ => ⟨S_, .f32⟩
  | .hbm, ⟨60, _⟩ => ⟨S16x4, .f32⟩
  | .hbm, ⟨61, _⟩ => ⟨S16x4, .f32⟩
  | .hbm, ⟨62, _⟩ => ⟨S4096x16x768, .f32⟩
  | .hbm, ⟨63, _⟩ => ⟨S4096x16x128, .f32⟩
  | .hbm, ⟨64, _⟩ => ⟨S4096x16x4, .f32⟩
  | .hbm, ⟨65, _⟩ => ⟨S4096x16x768, .fp8e4m3⟩
  | .hbm, ⟨66, _⟩ => ⟨S4096x16x1, .f32⟩
  | .hbm, ⟨67, _⟩ => ⟨S4096x16, .f32⟩
  | .hbm, ⟨68, _⟩ => ⟨S4096x16x4x1536, .fp8e4m3⟩
  | .hbm, ⟨69, _⟩ => ⟨S4096x16x128, .f32⟩
  | .hbm, ⟨70, _⟩ => ⟨S4096x16x4, .f32⟩
  | .local _ .vmem, ⟨0, _⟩ => ⟨S1x256x768, .bf16⟩
  | .local _ .vmem, ⟨1, _⟩ => ⟨S1x256x768, .bf16⟩
  | .local _ .vmem, ⟨2, _⟩ => ⟨S1x256x768, .bf16⟩
  | .local _ .vmem, ⟨3, _⟩ => ⟨S1x256x768, .bf16⟩
  | .local _ .vmem, ⟨4, _⟩ => ⟨S1x1x768, .f32⟩
  | .local _ .vmem, ⟨5, _⟩ => ⟨S1x1x768, .f32⟩
  | .local _ .vmem, ⟨6, _⟩ => ⟨S1x1x768x128, .f32⟩
  | .local _ .vmem, ⟨7, _⟩ => ⟨S1x1x768x128, .f32⟩
  | .local _ .vmem, ⟨8, _⟩ => ⟨S1x1x1x128, .f32⟩
  | .local _ .vmem, ⟨9, _⟩ => ⟨S1x1x1x128, .f32⟩
  | .local _ .vmem, ⟨10, _⟩ => ⟨S1x1x4x768x1536, .fp8e4m3⟩
  | .local _ .vmem, ⟨11, _⟩ => ⟨S1x1x4x768x1536, .fp8e4m3⟩
  | .local _ .vmem, ⟨12, _⟩ => ⟨S1x1x4x1536, .f32⟩
  | .local _ .vmem, ⟨13, _⟩ => ⟨S1x1x4x1536, .f32⟩
  | .local _ .vmem, ⟨14, _⟩ => ⟨S1x1x4x1536, .f32⟩
  | .local _ .vmem, ⟨15, _⟩ => ⟨S1x1x4x1536, .f32⟩
  | .local _ .vmem, ⟨16, _⟩ => ⟨S1x1x4x1536x768, .fp8e4m3⟩
  | .local _ .vmem, ⟨17, _⟩ => ⟨S1x1x4x1536x768, .fp8e4m3⟩
  | .local _ .vmem, ⟨18, _⟩ => ⟨S1x1x4x768, .f32⟩
  | .local _ .vmem, ⟨19, _⟩ => ⟨S1x1x4x768, .f32⟩
  | .local _ .vmem, ⟨20, _⟩ => ⟨S1x1x768, .f32⟩
  | .local _ .vmem, ⟨21, _⟩ => ⟨S1x1x768, .f32⟩
  | .local _ .vmem, ⟨22, _⟩ => ⟨S1x256x768, .f32⟩
  | .local _ .vmem, ⟨23, _⟩ => ⟨S1x256x768, .f32⟩
  | .local _ .vmem, ⟨24, _⟩ => ⟨S1x256x768, .f32⟩
  | .local _ .vmem, ⟨25, _⟩ => ⟨S1x256x768, .f32⟩
  | .local _ .vmem, ⟨26, _⟩ => ⟨S1x256x128, .f32⟩
  | .local _ .vmem, ⟨27, _⟩ => ⟨S1x256x128, .f32⟩
  | .local _ .vmem, ⟨28, _⟩ => ⟨S1x256x768, .fp8e4m3⟩
  | .local _ .vmem, ⟨29, _⟩ => ⟨S1x256x768, .fp8e4m3⟩
  | .local _ .vmem, ⟨30, _⟩ => ⟨S1x256x1, .f32⟩
  | .local _ .vmem, ⟨31, _⟩ => ⟨S1x256x1, .f32⟩
  | .local _ .vmem, ⟨32, _⟩ => ⟨S1x256x128, .f32⟩
  | .local _ .vmem, ⟨33, _⟩ => ⟨S1x256x128, .f32⟩
  | .local _ .vmem, ⟨34, _⟩ => ⟨S1x4x256x1536, .fp8e4m3⟩
  | .local _ .vmem, ⟨35, _⟩ => ⟨S1x4x256x1536, .fp8e4m3⟩
  | .local _ .vmem, ⟨36, _⟩ => ⟨S1x256x768, .f32⟩
  | .local _ .vmem, ⟨37, _⟩ => ⟨S1x256x768, .f32⟩
  | .local _ .vmem, ⟨38, _⟩ => ⟨S1x256x768, .f32⟩
  | .local _ .vmem, ⟨39, _⟩ => ⟨S1x256x768, .f32⟩
  | .local _ .vmem, ⟨40, _⟩ => ⟨S1x1x768, .f32⟩
  | .local _ .vmem, ⟨41, _⟩ => ⟨S1x1x768, .f32⟩
  | .local _ .vmem, ⟨42, _⟩ => ⟨S1x1x768x128, .f32⟩
  | .local _ .vmem, ⟨43, _⟩ => ⟨S1x1x768x128, .f32⟩
  | .local _ .vmem, ⟨44, _⟩ => ⟨S1x1x1x128, .f32⟩
  | .local _ .vmem, ⟨45, _⟩ => ⟨S1x1x1x128, .f32⟩
  | .local _ .vmem, ⟨46, _⟩ => ⟨S1x1x4x768x1536, .fp8e4m3⟩
  | .local _ .vmem, ⟨47, _⟩ => ⟨S1x1x4x768x1536, .fp8e4m3⟩
  | .local _ .vmem, ⟨48, _⟩ => ⟨S1x1x4x1536, .f32⟩
  | .local _ .vmem, ⟨49, _⟩ => ⟨S1x1x4x1536, .f32⟩
  | .local _ .vmem, ⟨50, _⟩ => ⟨S1x1x4x1536, .f32⟩
  | .local _ .vmem, ⟨51, _⟩ => ⟨S1x1x4x1536, .f32⟩
  | .local _ .vmem, ⟨52, _⟩ => ⟨S1x1x4x1536x768, .fp8e4m3⟩
  | .local _ .vmem, ⟨53, _⟩ => ⟨S1x1x4x1536x768, .fp8e4m3⟩
  | .local _ .vmem, ⟨54, _⟩ => ⟨S1x1x4x768, .f32⟩
  | .local _ .vmem, ⟨55, _⟩ => ⟨S1x1x4x768, .f32⟩
  | .local _ .vmem, ⟨56, _⟩ => ⟨S1x1x768, .f32⟩
  | .local _ .vmem, ⟨57, _⟩ => ⟨S1x1x768, .f32⟩
  | .local _ .vmem, ⟨58, _⟩ => ⟨S1x256x768, .fp8e4m3⟩
  | .local _ .vmem, ⟨59, _⟩ => ⟨S1x256x768, .fp8e4m3⟩
  | .local _ .vmem, ⟨60, _⟩ => ⟨S1x256x1, .f32⟩
  | .local _ .vmem, ⟨61, _⟩ => ⟨S1x256x1, .f32⟩
  | .local _ .vmem, ⟨62, _⟩ => ⟨S1x256x128, .f32⟩
  | .local _ .vmem, ⟨63, _⟩ => ⟨S1x256x128, .f32⟩
  | .local _ .vmem, ⟨64, _⟩ => ⟨S1x1x128, .f32⟩
  | .local _ .vmem, ⟨65, _⟩ => ⟨S1x1x128, .f32⟩
  | _, _ => ⟨S4096x16x768, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | _, _ => false

abbrev semScoped : Fin 0 → Bool
  | ⟨_, h⟩ => absurd h (Nat.not_lt_zero _)

abbrev dmaSemScoped : Fin 66 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | _ => false

abbrev sig : RefSig :=
  ofTc nBuf bufTy 0 66 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_c : Ref sig .tc := ⟨.hbm, 18, rfl⟩
abbrev main_call0_v0 : Ref sig .tc := ⟨.hbm, 19, rfl⟩
abbrev main_v6 : Ref sig .tc := ⟨.hbm, 20, rfl⟩
abbrev main_c_0 : Ref sig .tc := ⟨.hbm, 21, rfl⟩
abbrev main_call1_v0 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11_0 : Ref sig .tc := ⟨.hbm, 27, rfl⟩
abbrev main_v11_1 : Ref sig .tc := ⟨.hbm, 28, rfl⟩
abbrev main_v11_2 : Ref sig .tc := ⟨.hbm, 29, rfl⟩
abbrev main_v11_3 : Ref sig .tc := ⟨.hbm, 30, rfl⟩
abbrev main_v11_4 : Ref sig .tc := ⟨.hbm, 31, rfl⟩
abbrev main_v11_5 : Ref sig .tc := ⟨.hbm, 32, rfl⟩
abbrev main_v11_6 : Ref sig .tc := ⟨.hbm, 33, rfl⟩
abbrev main_v12 : Ref sig .tc := ⟨.hbm, 34, rfl⟩
abbrev main_v13 : Ref sig .tc := ⟨.hbm, 35, rfl⟩
abbrev main_v14 : Ref sig .tc := ⟨.hbm, 36, rfl⟩
abbrev main_v15 : Ref sig .tc := ⟨.hbm, 37, rfl⟩
abbrev main_v16 : Ref sig .tc := ⟨.hbm, 38, rfl⟩
abbrev main_c_1 : Ref sig .tc := ⟨.hbm, 39, rfl⟩
abbrev main_call2_v0 : Ref sig .tc := ⟨.hbm, 40, rfl⟩
abbrev main_v17 : Ref sig .tc := ⟨.hbm, 41, rfl⟩
abbrev main_c_2 : Ref sig .tc := ⟨.hbm, 42, rfl⟩
abbrev main_call3_v0 : Ref sig .tc := ⟨.hbm, 43, rfl⟩
abbrev main_v18 : Ref sig .tc := ⟨.hbm, 44, rfl⟩
abbrev main_v19 : Ref sig .tc := ⟨.hbm, 45, rfl⟩
abbrev main_v20 : Ref sig .tc := ⟨.hbm, 46, rfl⟩
abbrev main_v21 : Ref sig .tc := ⟨.hbm, 47, rfl⟩
abbrev main_v22_0 : Ref sig .tc := ⟨.hbm, 48, rfl⟩
abbrev main_v22_1 : Ref sig .tc := ⟨.hbm, 49, rfl⟩
abbrev main_v22_2 : Ref sig .tc := ⟨.hbm, 50, rfl⟩
abbrev main_v22_3 : Ref sig .tc := ⟨.hbm, 51, rfl⟩
abbrev main_v23 : Ref sig .tc := ⟨.hbm, 52, rfl⟩
abbrev main_v24 : Ref sig .tc := ⟨.hbm, 53, rfl⟩
abbrev main_v25 : Ref sig .tc := ⟨.hbm, 54, rfl⟩
abbrev main_v26 : Ref sig .tc := ⟨.hbm, 55, rfl⟩
abbrev main_v27 : Ref sig .tc := ⟨.hbm, 56, rfl⟩
abbrev main_v28 : Ref sig .tc := ⟨.hbm, 57, rfl⟩
abbrev main_v29 : Ref sig .tc := ⟨.hbm, 58, rfl⟩
abbrev main_cst : Ref sig .tc := ⟨.hbm, 59, rfl⟩
abbrev main_v30 : Ref sig .tc := ⟨.hbm, 60, rfl⟩
abbrev main_v31 : Ref sig .tc := ⟨.hbm, 61, rfl⟩
abbrev main_v32 : Ref sig .tc := ⟨.hbm, 62, rfl⟩
abbrev main_v33 : Ref sig .tc := ⟨.hbm, 63, rfl⟩
abbrev main_v34 : Ref sig .tc := ⟨.hbm, 64, rfl⟩
abbrev main_v35 : Ref sig .tc := ⟨.hbm, 65, rfl⟩
abbrev main_v36 : Ref sig .tc := ⟨.hbm, 66, rfl⟩
abbrev main_v37 : Ref sig .tc := ⟨.hbm, 67, rfl⟩
abbrev main_v38 : Ref sig .tc := ⟨.hbm, 68, rfl⟩
abbrev main_v39 : Ref sig .tc := ⟨.hbm, 69, rfl⟩
abbrev main_v40 : Ref sig .tc := ⟨.hbm, 70, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg12_0 : Ref sig .tc := ⟨.vmem, 21, rfl⟩
abbrev cc0_stg13_0 : Ref sig .tc := ⟨.vmem, 22, rfl⟩
abbrev cc0_stg13_1 : Ref sig .tc := ⟨.vmem, 23, rfl⟩
abbrev cc0_stg14_0 : Ref sig .tc := ⟨.vmem, 24, rfl⟩
abbrev cc0_stg14_1 : Ref sig .tc := ⟨.vmem, 25, rfl⟩
abbrev cc0_stg15_0 : Ref sig .tc := ⟨.vmem, 26, rfl⟩
abbrev cc0_stg15_1 : Ref sig .tc := ⟨.vmem, 27, rfl⟩
abbrev cc0_stg16_0 : Ref sig .tc := ⟨.vmem, 28, rfl⟩
abbrev cc0_stg16_1 : Ref sig .tc := ⟨.vmem, 29, rfl⟩
abbrev cc0_stg17_0 : Ref sig .tc := ⟨.vmem, 30, rfl⟩
abbrev cc0_stg17_1 : Ref sig .tc := ⟨.vmem, 31, rfl⟩
abbrev cc0_stg18_0 : Ref sig .tc := ⟨.vmem, 32, rfl⟩
abbrev cc0_stg18_1 : Ref sig .tc := ⟨.vmem, 33, rfl⟩
abbrev cc0_stg19_0 : Ref sig .tc := ⟨.vmem, 34, rfl⟩
abbrev cc0_stg19_1 : Ref sig .tc := ⟨.vmem, 35, rfl⟩
abbrev cc1_stg0_0 : Ref sig .tc := ⟨.vmem, 36, rfl⟩
abbrev cc1_stg0_1 : Ref sig .tc := ⟨.vmem, 37, rfl⟩
abbrev cc1_stg1_0 : Ref sig .tc := ⟨.vmem, 38, rfl⟩
abbrev cc1_stg1_1 : Ref sig .tc := ⟨.vmem, 39, rfl⟩
abbrev cc1_stg2_0 : Ref sig .tc := ⟨.vmem, 40, rfl⟩
abbrev cc1_stg3_0 : Ref sig .tc := ⟨.vmem, 41, rfl⟩
abbrev cc1_stg4_0 : Ref sig .tc := ⟨.vmem, 42, rfl⟩
abbrev cc1_stg4_1 : Ref sig .tc := ⟨.vmem, 43, rfl⟩
abbrev cc1_stg5_0 : Ref sig .tc := ⟨.vmem, 44, rfl⟩
abbrev cc1_stg5_1 : Ref sig .tc := ⟨.vmem, 45, rfl⟩
abbrev cc1_stg6_0 : Ref sig .tc := ⟨.vmem, 46, rfl⟩
abbrev cc1_stg6_1 : Ref sig .tc := ⟨.vmem, 47, rfl⟩
abbrev cc1_stg7_0 : Ref sig .tc := ⟨.vmem, 48, rfl⟩
abbrev cc1_stg7_1 : Ref sig .tc := ⟨.vmem, 49, rfl⟩
abbrev cc1_stg8_0 : Ref sig .tc := ⟨.vmem, 50, rfl⟩
abbrev cc1_stg8_1 : Ref sig .tc := ⟨.vmem, 51, rfl⟩
abbrev cc1_stg9_0 : Ref sig .tc := ⟨.vmem, 52, rfl⟩
abbrev cc1_stg9_1 : Ref sig .tc := ⟨.vmem, 53, rfl⟩
abbrev cc1_stg10_0 : Ref sig .tc := ⟨.vmem, 54, rfl⟩
abbrev cc1_stg10_1 : Ref sig .tc := ⟨.vmem, 55, rfl⟩
abbrev cc1_stg11_0 : Ref sig .tc := ⟨.vmem, 56, rfl⟩
abbrev cc1_stg12_0 : Ref sig .tc := ⟨.vmem, 57, rfl⟩
abbrev cc1_stg13_0 : Ref sig .tc := ⟨.vmem, 58, rfl⟩
abbrev cc1_stg13_1 : Ref sig .tc := ⟨.vmem, 59, rfl⟩
abbrev cc1_stg14_0 : Ref sig .tc := ⟨.vmem, 60, rfl⟩
abbrev cc1_stg14_1 : Ref sig .tc := ⟨.vmem, 61, rfl⟩
abbrev cc1_stg15_0 : Ref sig .tc := ⟨.vmem, 62, rfl⟩
abbrev cc1_stg15_1 : Ref sig .tc := ⟨.vmem, 63, rfl⟩
abbrev cc1_stg16_0 : Ref sig .tc := ⟨.vmem, 64, rfl⟩
abbrev cc1_stg16_1 : Ref sig .tc := ⟨.vmem, 65, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19
abbrev cc0_sem11_0 : DmaSem sig := 20
abbrev cc0_sem12_0 : DmaSem sig := 21
abbrev cc0_sem13_0 : DmaSem sig := 22
abbrev cc0_sem13_1 : DmaSem sig := 23
abbrev cc0_sem14_0 : DmaSem sig := 24
abbrev cc0_sem14_1 : DmaSem sig := 25
abbrev cc0_sem15_0 : DmaSem sig := 26
abbrev cc0_sem15_1 : DmaSem sig := 27
abbrev cc0_sem16_0 : DmaSem sig := 28
abbrev cc0_sem16_1 : DmaSem sig := 29
abbrev cc0_sem17_0 : DmaSem sig := 30
abbrev cc0_sem17_1 : DmaSem sig := 31
abbrev cc0_sem18_0 : DmaSem sig := 32
abbrev cc0_sem18_1 : DmaSem sig := 33
abbrev cc0_sem19_0 : DmaSem sig := 34
abbrev cc0_sem19_1 : DmaSem sig := 35
abbrev cc1_sem0_0 : DmaSem sig := 36
abbrev cc1_sem0_1 : DmaSem sig := 37
abbrev cc1_sem1_0 : DmaSem sig := 38
abbrev cc1_sem1_1 : DmaSem sig := 39
abbrev cc1_sem2_0 : DmaSem sig := 40
abbrev cc1_sem3_0 : DmaSem sig := 41
abbrev cc1_sem4_0 : DmaSem sig := 42
abbrev cc1_sem4_1 : DmaSem sig := 43
abbrev cc1_sem5_0 : DmaSem sig := 44
abbrev cc1_sem5_1 : DmaSem sig := 45
abbrev cc1_sem6_0 : DmaSem sig := 46
abbrev cc1_sem6_1 : DmaSem sig := 47
abbrev cc1_sem7_0 : DmaSem sig := 48
abbrev cc1_sem7_1 : DmaSem sig := 49
abbrev cc1_sem8_0 : DmaSem sig := 50
abbrev cc1_sem8_1 : DmaSem sig := 51
abbrev cc1_sem9_0 : DmaSem sig := 52
abbrev cc1_sem9_1 : DmaSem sig := 53
abbrev cc1_sem10_0 : DmaSem sig := 54
abbrev cc1_sem10_1 : DmaSem sig := 55
abbrev cc1_sem11_0 : DmaSem sig := 56
abbrev cc1_sem12_0 : DmaSem sig := 57
abbrev cc1_sem13_0 : DmaSem sig := 58
abbrev cc1_sem13_1 : DmaSem sig := 59
abbrev cc1_sem14_0 : DmaSem sig := 60
abbrev cc1_sem14_1 : DmaSem sig := 61
abbrev cc1_sem15_0 : DmaSem sig := 62
abbrev cc1_sem15_1 : DmaSem sig := 63
abbrev cc1_sem16_0 : DmaSem sig := 64
abbrev cc1_sem16_1 : DmaSem sig := 65

abbrev nD : Nat := 1
abbrev τ : Topo := Topo.v7x

variable {F : FTy → Type} [FloatOps F]

abbrev grid0 : Pipeline.Grid := ⟨2, ![16, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_6 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, arg0.toNat, c0_i32_0.toNat, c0_i32_1.toNat, c0_i32_2.toNat]

def cc0_transform_7 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_8 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_9 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, arg0.toNat, c0_i32_0.toNat, c0_i32_1.toNat, c0_i32_2.toNat]

def cc0_transform_10 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_15 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_16 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_17 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_18 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_19 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

abbrev stage0_0 : Fin 2 → Memref sig .tc .vmem S1x256x768 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1x1x768 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x1x768 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x1x768x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x1x1x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x1x4x768x1536 .fp8e4m3 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x1x4x1536 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S1x1x4x1536 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S1x1x4x1536x768 .fp8e4m3 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S1x1x4x768 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]

abbrev stage0_11 : Fin 1 → Memref sig .tc .vmem S1x1x768 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S1x1x768 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 2 → Memref sig .tc .vmem S1x256x768 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S1x256x768 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 2 → Memref sig .tc .vmem S1x256x128 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]

abbrev stage0_16 : Fin 2 → Memref sig .tc .vmem S1x256x768 .fp8e4m3 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true]

abbrev stage0_17 : Fin 2 → Memref sig .tc .vmem S1x256x1 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true, true]

abbrev stage0_18 : Fin 2 → Memref sig .tc .vmem S1x256x128 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true, true]

abbrev stage0_19 : Fin 2 → Memref sig .tc .vmem S1x4x256x1536 .fp8e4m3 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true, true]

abbrev grid1 : Pipeline.Grid := ⟨2, ![16, 16], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_2 (i : grid1.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc1_transform_3 (i : grid1.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc1_transform_4 (i : grid1.Coords) : Fin 4 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, arg0.toNat, c0_i32.toNat, c0_i32_0.toNat]

def cc1_transform_5 (i : grid1.Coords) : Fin 4 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, arg0.toNat, c0_i32.toNat, c0_i32_0.toNat]

def cc1_transform_6 (i : grid1.Coords) : Fin 5 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  let c0_i32_2 : BitVec 32 := 0#32
  ![c1_i32.toNat, arg0.toNat, c0_i32.toNat, c0_i32_0.toNat, c0_i32_1.toNat]

def cc1_transform_7 (i : grid1.Coords) : Fin 4 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, arg0.toNat, c0_i32.toNat, c0_i32_0.toNat]

def cc1_transform_8 (i : grid1.Coords) : Fin 4 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, arg0.toNat, c0_i32.toNat, c0_i32_0.toNat]

def cc1_transform_9 (i : grid1.Coords) : Fin 5 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  let c0_i32_2 : BitVec 32 := 0#32
  ![c1_i32.toNat, arg0.toNat, c0_i32.toNat, c0_i32_0.toNat, c0_i32_1.toNat]

def cc1_transform_10 (i : grid1.Coords) : Fin 4 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, arg0.toNat, c0_i32.toNat, c0_i32_0.toNat]

def cc1_transform_11 (i : grid1.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc1_transform_12 (i : grid1.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc1_transform_13 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_14 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_15 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_16 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S1x256x768 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x256x768 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 1 → Memref sig .tc .vmem S1x1x768 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false]

abbrev stage1_3 : Fin 1 → Memref sig .tc .vmem S1x1x768 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false]

abbrev stage1_4 : Fin 2 → Memref sig .tc .vmem S1x1x768x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, false]

abbrev stage1_5 : Fin 2 → Memref sig .tc .vmem S1x1x1x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, false]

abbrev stage1_6 : Fin 2 → Memref sig .tc .vmem S1x1x4x768x1536 .fp8e4m3 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, false]

abbrev stage1_7 : Fin 2 → Memref sig .tc .vmem S1x1x4x1536 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true, false]

abbrev stage1_8 : Fin 2 → Memref sig .tc .vmem S1x1x4x1536 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true, false]

abbrev stage1_9 : Fin 2 → Memref sig .tc .vmem S1x1x4x1536x768 .fp8e4m3 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true, false]

abbrev stage1_10 : Fin 2 → Memref sig .tc .vmem S1x1x4x768 .f32 := fun | 0 => Memref.whole cc1_stg10_0 | 1 => Memref.whole cc1_stg10_1 | ⟨_ + 2, h⟩ => absurd h (Nat.not_lt.2 (Nat.le_add_left _ _))
abbrev sem1_10 : Fin 2 → DmaSem sig := fun | 0 => cc1_sem10_0 | 1 => cc1_sem10_1 | ⟨_ + 2, h⟩ => absurd h (Nat.not_lt.2 (Nat.le_add_left _ _))
abbrev reads1_10 : Fin grid1.rank → Bool := ![true, false]

abbrev stage1_11 : Fin 1 → Memref sig .tc .vmem S1x1x768 .f32 := fun | 0 => Memref.whole cc1_stg11_0 | ⟨_ + 1, h⟩ => absurd h (Nat.not_lt.2 (Nat.le_add_left _ _))
abbrev sem1_11 : Fin 1 → DmaSem sig := fun | 0 => cc1_sem11_0 | ⟨_ + 1, h⟩ => absurd h (Nat.not_lt.2 (Nat.le_add_left _ _))
abbrev reads1_11 : Fin grid1.rank → Bool := ![false, false]

abbrev stage1_12 : Fin 1 → Memref sig .tc .vmem S1x1x768 .f32 := fun | 0 => Memref.whole cc1_stg12_0 | ⟨_ + 1, h⟩ => absurd h (Nat.not_lt.2 (Nat.le_add_left _ _))
abbrev sem1_12 : Fin 1 → DmaSem sig := fun | 0 => cc1_sem12_0 | ⟨_ + 1, h⟩ => absurd h (Nat.not_lt.2 (Nat.le_add_left _ _))
abbrev reads1_12 : Fin grid1.rank → Bool := ![false, false]

abbrev stage1_13 : Fin 2 → Memref sig .tc .vmem S1x256x768 .fp8e4m3 := fun | 0 => Memref.whole cc1_stg13_0 | 1 => Memref.whole cc1_stg13_1 | ⟨_ + 2, h⟩ => absurd h (Nat.not_lt.2 (Nat.le_add_left _ _))
abbrev sem1_13 : Fin 2 → DmaSem sig := fun | 0 => cc1_sem13_0 | 1 => cc1_sem13_1 | ⟨_ + 2, h⟩ => absurd h (Nat.not_lt.2 (Nat.le_add_left _ _))
abbrev reads1_13 : Fin grid1.rank → Bool := ![true, true]

abbrev stage1_14 : Fin 2 → Memref sig .tc .vmem S1x256x1 .f32 := fun | 0 => Memref.whole cc1_stg14_0 | 1 => Memref.whole cc1_stg14_1 | ⟨_ + 2, h⟩ => absurd h (Nat.not_lt.2 (Nat.le_add_left _ _))
abbrev sem1_14 : Fin 2 → DmaSem sig := fun | 0 => cc1_sem14_0 | 1 => cc1_sem14_1 | ⟨_ + 2, h⟩ => absurd h (Nat.not_lt.2 (Nat.le_add_left _ _))
abbrev reads1_14 : Fin grid1.rank → Bool := ![true, true]

abbrev stage1_15 : Fin 2 → Memref sig .tc .vmem S1x256x128 .f32 := fun | 0 => Memref.whole cc1_stg15_0 | 1 => Memref.whole cc1_stg15_1 | ⟨_ + 2, h⟩ => absurd h (Nat.not_lt.2 (Nat.le_add_left _ _))
abbrev sem1_15 : Fin 2 → DmaSem sig := fun | 0 => cc1_sem15_0 | 1 => cc1_sem15_1 | ⟨_ + 2, h⟩ => absurd h (Nat.not_lt.2 (Nat.le_add_left _ _))
abbrev reads1_15 : Fin grid1.rank → Bool := ![true, true]

abbrev stage1_16 : Fin 2 → Memref sig .tc .vmem S1x1x128 .f32 := fun | 0 => Memref.whole cc1_stg16_0 | 1 => Memref.whole cc1_stg16_1 | ⟨_ + 2, h⟩ => absurd h (Nat.not_lt.2 (Nat.le_add_left _ _))
abbrev sem1_16 : Fin 2 → DmaSem sig := fun | 0 => cc1_sem16_0 | 1 => cc1_sem16_1 | ⟨_ + 2, h⟩ => absurd h (Nat.not_lt.2 (Nat.le_add_left _ _))
abbrev reads1_16 : Fin grid1.rank → Bool := ![true, false]
-- ==== KernelIdeal.lean ====
variable {F : FTy → Type} [FloatOps F] [Named F]
def κ : String → Option EReal := fun
  | "inv_sqrt_2" => some (((Real.sqrt 2)⁻¹ : ℝ) : EReal)
  | _ => none
-- ==== ReferenceIdeal.lean ====
variable {F : FTy → Type} [FloatOps F] [Named F]
def κ : String → Option EReal := fun
  | "sqrt_2" => some ((Real.sqrt 2 : ℝ) : EReal)
  | _ => none
-- ==== Reference.lean ====
abbrev S4096x16x768 : Shape := ⟨3, ![4096, 16, 768]⟩
abbrev S2x768 : Shape := ⟨2, ![2, 768]⟩
abbrev S2x16x768x4 : Shape := ⟨4, ![2, 16, 768, 4]⟩
abbrev S2x16x4 : Shape := ⟨3, ![2, 16, 4]⟩
abbrev S2x16x4x768x1536 : Shape := ⟨5, ![2, 16, 4, 768, 1536]⟩
abbrev S2x16x4x1536 : Shape := ⟨4, ![2, 16, 4, 1536]⟩
abbrev S2x16x4x1536x768 : Shape := ⟨5, ![2, 16, 4, 1536, 768]⟩
abbrev S2x16x4x768 : Shape := ⟨4, ![2, 16, 4, 768]⟩
abbrev S4096x16 : Shape := ⟨2, ![4096, 16]⟩
abbrev S4096x16x4 : Shape := ⟨3, ![4096, 16, 4]⟩
abbrev S16x4 : Shape := ⟨2, ![16, 4]⟩
abbrev S4096x16x4x1536 : Shape := ⟨4, ![4096, 16, 4, 1536]⟩
abbrev S1x768 : Shape := ⟨2, ![1, 768]⟩
abbrev S768 : Shape := ⟨1, ![768]⟩
abbrev S1x16x768x4 : Shape := ⟨4, ![1, 16, 768, 4]⟩
abbrev S16x768x4 : Shape := ⟨3, ![16, 768, 4]⟩
abbrev S1x16x4 : Shape := ⟨3, ![1, 16, 4]⟩
abbrev S1x16x4x768x1536 : Shape := ⟨5, ![1, 16, 4, 768, 1536]⟩
abbrev S16x4x768x1536 : Shape := ⟨4, ![16, 4, 768, 1536]⟩
abbrev S1x16x4x1536 : Shape := ⟨4, ![1, 16, 4, 1536]⟩
abbrev S16x4x1536 : Shape := ⟨3, ![16, 4, 1536]⟩
abbrev S1x16x4x1536x768 : Shape := ⟨5, ![1, 16, 4, 1536, 768]⟩
abbrev S16x4x1536x768 : Shape := ⟨4, ![16, 4, 1536, 768]⟩
abbrev S1x16x4x768 : Shape := ⟨4, ![1, 16, 4, 768]⟩
abbrev S16x4x768 : Shape := ⟨3, ![16, 4, 768]⟩
abbrev S4096x16x16x48 : Shape := ⟨4, ![4096, 16, 16, 48]⟩
abbrev S4096x16x1 : Shape := ⟨3, ![4096, 16, 1]⟩
abbrev S1x1x768 : Shape := ⟨3, ![1, 1, 768]⟩
abbrev S16x4x4096 : Shape := ⟨3, ![16, 4, 4096]⟩
abbrev S16x4x1536x4096 : Shape := ⟨4, ![16, 4, 1536, 4096]⟩
abbrev S4096x16x1x1 : Shape := ⟨4, ![4096, 16, 1, 1]⟩
abbrev S4096x16x4x1 : Shape := ⟨4, ![4096, 16, 4, 1]⟩
abbrev S16x4x768x4096 : Shape := ⟨4, ![16, 4, 768, 4096]⟩
abbrev S4096x16x4x768 : Shape := ⟨4, ![4096, 16, 4, 768]⟩

abbrev nBuf : Space → Nat
  | .hbm => 22
  | .vmem => 22
  | .smem => 0
  | _ => 0

abbrev bufTy : (tb : Table) → Fin (tcTables nBuf tb) → BufTy
  | .hbm, ⟨0, _⟩ => ⟨S4096x16x768, .bf16⟩
  | .hbm, ⟨1, _⟩ => ⟨S2x768, .f32⟩
  | .hbm, ⟨2, _⟩ => ⟨S2x768, .f32⟩
  | .hbm, ⟨3, _⟩ => ⟨S2x16x768x4, .f32⟩
  | .hbm, ⟨4, _⟩ => ⟨S2x16x4, .f32⟩
  | .hbm, ⟨5, _⟩ => ⟨S2x16x4x768x1536, .fp8e4m3⟩
  | .hbm, ⟨6, _⟩ => ⟨S2x16x4x1536, .f32⟩
  | .hbm, ⟨7, _⟩ => ⟨S2x16x4x1536, .f32⟩
  | .hbm, ⟨8, _⟩ => ⟨S2x16x4x1536x768, .fp8e4m3⟩
  | .hbm, ⟨9, _⟩ => ⟨S2x16x4x768, .f32⟩
  | .hbm, ⟨10, _⟩ => ⟨S2x768, .f32⟩
  | .hbm, ⟨11, _⟩ => ⟨S2x768, .f32⟩
  | .hbm, ⟨12, _⟩ => ⟨S4096x16x768, .fp8e4m3⟩
  | .hbm, ⟨13, _⟩ => ⟨S4096x16, .f32⟩
  | .hbm, ⟨14, _⟩ => ⟨S4096x16x4, .f32⟩
  | .hbm, ⟨15, _⟩ => ⟨S16x4, .f32⟩
  | .hbm, ⟨16, _⟩ => ⟨S4096x16x768, .f32⟩
  | .hbm, ⟨17, _⟩ => ⟨S4096x16x4, .f32⟩
  | .hbm, ⟨18, _⟩ => ⟨S4096x16x768, .fp8e4m3⟩
  | .hbm, ⟨19, _⟩ => ⟨S4096x16, .f32⟩
  | .hbm, ⟨20, _⟩ => ⟨S4096x16x4x1536, .fp8e4m3⟩
  | .hbm, ⟨21, _⟩ => ⟨S4096x16x4, .f32⟩
  | .local _ .vmem, ⟨0, _⟩ => ⟨S4096x16x768, .bf16⟩
  | .local _ .vmem, ⟨1, _⟩ => ⟨S2x768, .f32⟩
  | .local _ .vmem, ⟨2, _⟩ => ⟨S2x768, .f32⟩
  | .local _ .vmem, ⟨3, _⟩ => ⟨S2x16x768x4, .f32⟩
  | .local _ .vmem, ⟨4, _⟩ => ⟨S2x16x4, .f32⟩
  | .local _ .vmem, ⟨5, _⟩ => ⟨S2x16x4x768x1536, .fp8e4m3⟩
  | .local _ .vmem, ⟨6, _⟩ => ⟨S2x16x4x1536, .f32⟩
  | .local _ .vmem, ⟨7, _⟩ => ⟨S2x16x4x1536, .f32⟩
  | .local _ .vmem, ⟨8, _⟩ => ⟨S2x16x4x1536x768, .fp8e4m3⟩
  | .local _ .vmem, ⟨9, _⟩ => ⟨S2x16x4x768, .f32⟩
  | .local _ .vmem, ⟨10, _⟩ => ⟨S2x768, .f32⟩
  | .local _ .vmem, ⟨11, _⟩ => ⟨S2x768, .f32⟩
  | .local _ .vmem, ⟨12, _⟩ => ⟨S4096x16x768, .fp8e4m3⟩
  | .local _ .vmem, ⟨13, _⟩ => ⟨S4096x16, .f32⟩
  | .local _ .vmem, ⟨14, _⟩ => ⟨S4096x16x4, .f32⟩
  | .local _ .vmem, ⟨15, _⟩ => ⟨S16x4, .f32⟩
  | .local _ .vmem, ⟨16, _⟩ => ⟨S4096x16x768, .f32⟩
  | .local _ .vmem, ⟨17, _⟩ => ⟨S4096x16x4, .f32⟩
  | .local _ .vmem, ⟨18, _⟩ => ⟨S4096x16x768, .fp8e4m3⟩
  | .local _ .vmem, ⟨19, _⟩ => ⟨S4096x16, .f32⟩
  | .local _ .vmem, ⟨20, _⟩ => ⟨S4096x16x4x1536, .fp8e4m3⟩
  | .local _ .vmem, ⟨21, _⟩ => ⟨S4096x16x4, .f32⟩
  | _, _ => ⟨S4096x16x768, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0_0 : Ref sig .tc := ⟨.hbm, 12, rfl⟩
abbrev main_v0_1 : Ref sig .tc := ⟨.hbm, 13, rfl⟩
abbrev main_v0_2 : Ref sig .tc := ⟨.hbm, 14, rfl⟩
abbrev main_v0_3 : Ref sig .tc := ⟨.hbm, 15, rfl⟩
abbrev main_v0_4 : Ref sig .tc := ⟨.hbm, 16, rfl⟩
abbrev main_v0_5 : Ref sig .tc := ⟨.hbm, 17, rfl⟩
abbrev main_v0_6 : Ref sig .tc := ⟨.hbm, 18, rfl⟩
abbrev main_v0_7 : Ref sig .tc := ⟨.hbm, 19, rfl⟩
abbrev main_v0_8 : Ref sig .tc := ⟨.hbm, 20, rfl⟩
abbrev main_v0_9 : Ref sig .tc := ⟨.hbm, 21, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_stg16_0 : Ref sig .tc := ⟨.vmem, 16, rfl⟩
abbrev cc0_stg17_0 : Ref sig .tc := ⟨.vmem, 17, rfl⟩
abbrev cc0_stg18_0 : Ref sig .tc := ⟨.vmem, 18, rfl⟩
abbrev cc0_stg19_0 : Ref sig .tc := ⟨.vmem, 19, rfl⟩
abbrev cc0_stg20_0 : Ref sig .tc := ⟨.vmem, 20, rfl⟩
abbrev cc0_stg21_0 : Ref sig .tc := ⟨.vmem, 21, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15
abbrev cc0_sem16_0 : DmaSem sig := 16
abbrev cc0_sem17_0 : DmaSem sig := 17
abbrev cc0_sem18_0 : DmaSem sig := 18
abbrev cc0_sem19_0 : DmaSem sig := 19
abbrev cc0_sem20_0 : DmaSem sig := 20
abbrev cc0_sem21_0 : DmaSem sig := 21

abbrev nD : Nat := 1
abbrev τ : Topo := Topo.v7x

variable {F : FTy → Type} [FloatOps F]

abbrev grid0 : Pipeline.Grid := .none

abbrev stage0_0 : Fin 1 → Memref sig .tc .vmem S4096x16x768 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2x768 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2x768 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2x16x768x4 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S2x16x4 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2x16x4x768x1536 .fp8e4m3 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S2x16x4x1536 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S2x16x4x1536 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S2x16x4x1536x768 .fp8e4m3 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S2x16x4x768 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S2x768 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S2x768 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S4096x16x768 .fp8e4m3 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S4096x16 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))

abbrev stage0_14 : Fin 1 → Memref sig .tc .vmem S4096x16x4 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))

abbrev stage0_15 : Fin 1 → Memref sig .tc .vmem S16x4 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))

abbrev stage0_16 : Fin 1 → Memref sig .tc .vmem S4096x16x768 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))

abbrev stage0_17 : Fin 1 → Memref sig .tc .vmem S4096x16x4 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))

abbrev stage0_18 : Fin 1 → Memref sig .tc .vmem S4096x16x768 .fp8e4m3 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))

abbrev stage0_19 : Fin 1 → Memref sig .tc .vmem S4096x16 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))

abbrev stage0_20 : Fin 1 → Memref sig .tc .vmem S4096x16x4x1536 .fp8e4m3 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))

abbrev stage0_21 : Fin 1 → Memref sig .tc .vmem S4096x16x4 .f32 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))
-- ==== Proof.Spec.lean ====
module

public import proofs.«01_k».proof.Proof.Gen.KernelIdeal.Skeleton
public import proofs.«01_k».proof.Proof.Gen.ReferenceIdeal.Skeleton
public import Idealize.ShloMosaic.Lib.Pointwise

@[expose] public section

/-!
The mathematics of one mixer layer, row by row, over the extended reals.

Everything here speaks about one row of 768 features and about the parameters of one token; both the
kernel and the reference are shown to compute these functions.
-/

noncomputable section

namespace Mixer

open Idealize.ShloMosaic

/-- The number of features, as the programs write it. -/
abbrev c768 : EReal := Ideal.ofBits .f32 0x44400000#32
/-- The layer norm's epsilon. -/
abbrev ceps : EReal := Ideal.ofBits .f32 0x358637BD#32
/-- The largest value of the 8-bit format. -/
abbrev c448 : EReal := Ideal.ofBits .f32 0x43E00000#32
/-- The smallest value of the 8-bit format. -/
abbrev m448 : EReal := Ideal.ofBits .f32 0xC3E00000#32
/-- One half. -/
abbrev chalf : EReal := Ideal.ofBits .f32 0x3F000000#32
/-- The start of a maximum. -/
abbrev cninf : EReal := Ideal.ofBits .f32 0xFF800000#32
/-- The square root of two. -/
abbrev sqrt2 : EReal := ((Real.sqrt 2 : ℝ) : EReal)

/-- The absolute value. -/
abbrev eabs (x : EReal) : EReal := FloatOps.absf (F := Ideal) (φ := .f32) x
/-- The error function. -/
abbrev eerf (x : EReal) : EReal := FloatOps.erf (F := Ideal) (φ := .f32) x

/-- The mean of a row. -/
def mean (v : Fin 768 → EReal) : EReal := Ideal.div (∑ k, v k) c768
/-- A row less its mean. -/
def cen (v : Fin 768 → EReal) (d : Fin 768) : EReal := v d - mean v
/-- The variance of a row. -/
def var (v : Fin 768 → EReal) : EReal := Ideal.div (∑ k, cen v k * cen v k) c768
/-- The layer norm of a row. -/
def ln (v g b : Fin 768 → EReal) (d : Fin 768) : EReal :=
  Ideal.div (cen v d) (Ideal.sqrt (var v + ceps)) * g d + b d
/-- The largest absolute value of a row. -/
def amax {n : Nat} (v : Fin n → EReal) : EReal :=
  Finset.fold max cninf (fun k => eabs (v k)) Finset.univ
/-- The scale for a largest absolute value: 1 where it is 0. -/
def scale (a : EReal) : EReal := if a = 0 then 1 else Ideal.div a c448
/-- The code of a value under a scale. -/
def quant (x s : EReal) : EReal := min c448 (max m448 (Ideal.div x s))
/-- The activation. -/
def act (h : EReal) : EReal := chalf * h * (1 + eerf (Ideal.div h sqrt2))
/-- The gate of a row for one expert. -/
def gateOf (x w : Fin 768 → EReal) (b : EReal) : EReal := max ((∑ k, x k * w k) + b) 0
/-- The hidden layer of one expert before its activation. -/
def hidOf (c : Fin 768 → EReal) (s : EReal) (w : Fin 768 → Fin 1536 → EReal) (ws wb : Fin 1536 → EReal)
    (f : Fin 1536) : EReal := (∑ k, c k * w k f) * s * ws f + wb f
/-- The output of one expert. -/
def outOf (c : Fin 1536 → EReal) (s : EReal) (w : Fin 1536 → Fin 768 → EReal) (ws : Fin 768 → EReal)
    (d : Fin 768) : EReal := (∑ f, c f * w f d) * s * ws d

/-- The parameters of one layer at one token. -/
structure Par where
  /-- The first norm's gain. -/
  g1 : Fin 768 → EReal
  /-- The first norm's shift. -/
  c1 : Fin 768 → EReal
  /-- The router's weights. -/
  wr : Fin 768 → Fin 4 → EReal
  /-- The router's shift. -/
  br : Fin 4 → EReal
  /-- The experts' first weights, as codes. -/
  w1 : Fin 4 → Fin 768 → Fin 1536 → EReal
  /-- The scales of the first weights. -/
  s1 : Fin 4 → Fin 1536 → EReal
  /-- The experts' first shifts. -/
  b1 : Fin 4 → Fin 1536 → EReal
  /-- The experts' second weights, as codes. -/
  w2 : Fin 4 → Fin 1536 → Fin 768 → EReal
  /-- The scales of the second weights. -/
  s2 : Fin 4 → Fin 768 → EReal
  /-- The second norm's gain. -/
  g2 : Fin 768 → EReal
  /-- The second norm's shift. -/
  c2 : Fin 768 → EReal

namespace Par

variable (p : Par) (v : Fin 768 → EReal)

/-- The first norm. -/
def x1 (d : Fin 768) : EReal := ln v p.g1 p.c1 d
/-- Its scale. -/
def xs : EReal := scale (amax (p.x1 v))
/-- Its codes. -/
def xc (d : Fin 768) : EReal := quant (p.x1 v d) (p.xs v)
/-- The gates. -/
def gate (e : Fin 4) : EReal := gateOf (p.x1 v) (fun k => p.wr k e) (p.br e)
/-- The gated hidden layer of each expert. -/
def u (e : Fin 4) (f : Fin 1536) : EReal :=
  act (hidOf (p.xc v) (p.xs v) (p.w1 e) (p.s1 e) (p.b1 e) f) * p.gate v e
/-- Its largest absolute value. -/
def ua (e : Fin 4) : EReal := amax (p.u v e)
/-- Its scale. -/
def us (e : Fin 4) : EReal := scale (p.ua v e)
/-- Its codes. -/
def uc (e : Fin 4) (f : Fin 1536) : EReal := quant (p.u v e f) (p.us v e)
/-- The output of one expert. -/
def y (e : Fin 4) (d : Fin 768) : EReal := outOf (p.uc v e) (p.us v e) (p.w2 e) (p.s2 e) d
/-- The experts' outputs together. -/
def moe (d : Fin 768) : EReal := ∑ e, p.y v e d
/-- The second norm: the layer's output. -/
def x2 (d : Fin 768) : EReal := ln (fun k => p.x1 v k + p.moe v k) p.g2 p.c2 d
/-- The output's scale. -/
def qs : EReal := scale (amax (p.x2 v))
/-- The output's codes. -/
def qc (d : Fin 768) : EReal := quant (p.x2 v d) (p.qs v)

end Par

/-! ## The two programs' ways of writing the same value -/

theorem sqrt2_real_pos : (0 : ℝ) < Real.sqrt 2 := Real.sqrt_pos.mpr (by norm_num)

theorem c768_eq : c768 = ((768 : ℝ) : EReal) := by
  simp [c768, Ideal.ofBits, Ideal.ieee, -EReal.coe_mul]; norm_num

theorem c448_eq : c448 = ((448 : ℝ) : EReal) := by
  simp [c448, Ideal.ofBits, Ideal.ieee, -EReal.coe_mul]; norm_num

theorem ceps_pos : (0 : EReal) < ceps := by
  have h : ∃ q : ℝ, 0 < q ∧ ceps = ((q : ℝ) : EReal) := by
    refine ⟨_, ?_, by simp [ceps, Ideal.ofBits, Ideal.ieee, -EReal.coe_mul]; rfl⟩
    norm_num
  obtain ⟨q, hq, h⟩ := h
  rw [h]; exact_mod_cast hq

/-- Division by what is not 0 is multiplication by its reciprocal. -/
theorem div_eq_mul_recip {y : EReal} (h : y ≠ 0) (x : EReal) :
    x * Ideal.div 1 y = Ideal.div x y := by
  simp [Ideal.div, h]

theorem scale_ne_zero (a : EReal) : scale a ≠ 0 := by
  unfold scale
  split
  · exact one_ne_zero
  · rename_i h
    rw [c448_eq, Ideal.div_coe (by norm_num)]
    refine mul_ne_zero h ?_
    have : ((1 / 448 : ℝ)) ≠ 0 := by norm_num
    exact_mod_cast this

theorem mul_self_nonneg' (x : EReal) : 0 ≤ x * x := by
  rcases le_total 0 x with h | h
  · exact mul_nonneg h h
  · have := EReal.neg_le_neg_iff.mpr h
    rw [neg_zero] at this
    rw [← neg_mul_neg]; exact mul_nonneg this this

theorem var_nonneg (v : Fin 768 → EReal) : 0 ≤ var v := by
  unfold var
  rw [c768_eq, Ideal.div_coe (by norm_num)]
  refine mul_nonneg (Finset.sum_nonneg fun k _ => mul_self_nonneg' _) ?_
  have : (0 : ℝ) ≤ 1 / 768 := by norm_num
  exact_mod_cast this

theorem sqrt_ne_zero {x : EReal} (h : 0 < x) : Ideal.sqrt x ≠ 0 := by
  induction x with
  | bot => simp at h
  | top => exact EReal.top_ne_zero
  | coe r =>
    have hr : 0 < r := by exact_mod_cast h
    have : Ideal.sqrt ((r : ℝ) : EReal) = ((Real.sqrt r : ℝ) : EReal) := by
      show (if r < 0 then (⊥ : EReal) else ((Real.sqrt r : ℝ) : EReal)) = _
      rw [if_neg (not_lt.mpr hr.le)]
    rw [this]
    have := (Real.sqrt_pos.mpr hr).ne'
    exact_mod_cast this

theorem std_ne_zero (v : Fin 768 → EReal) : Ideal.sqrt (var v + ceps) ≠ 0 :=
  sqrt_ne_zero (lt_of_lt_of_le ceps_pos (le_add_of_nonneg_left (var_nonneg v)))

/-- The layer norm as the kernel writes it. -/
theorem ln_eq_recip (v g b : Fin 768 → EReal) (d : Fin 768) :
    cen v d * Ideal.div 1 (Ideal.sqrt (var v + ceps)) * g d + b d = ln v g b d := by
  rw [div_eq_mul_recip (std_ne_zero v)]; rfl

/-- The codes as the kernel writes them from a reciprocal scale. -/
theorem quant_eq_recip (x a : EReal) :
    min c448 (max m448 (x * Ideal.div 1 (scale a))) = quant x (scale a) := by
  rw [div_eq_mul_recip (scale_ne_zero a)]; rfl

/-- The reciprocal of the square root of two. -/
theorem mul_inv_sqrt2 (h : EReal) : h * (((Real.sqrt 2)⁻¹ : ℝ) : EReal) = Ideal.div h sqrt2 := by
  rw [sqrt2, Ideal.div_coe sqrt2_real_pos.ne', one_div]

end Mixer
-- ==== Proof.Vecs.lean ====
module

public import proofs.«01_k».proof.Proof.Spec

@[expose] public section

/-!
The kernel's steps on a block of 256 rows, one function for each, as the kernel spells them; and what
each computes at one row.
-/

set_option maxRecDepth 16384
set_option synthInstance.maxSize 4096
noncomputable section

namespace Mixer

open Idealize.ShloMosaic
open Cert.KernelIdeal Cert.KernelIdeal.Gen

section Defs

variable {F : FTy → Type} [FloatOps F] [Named F]

/-- The mean of each row. -/
def meanV (v : FVec F S256x768 .f32) : FVec F S256x1 .f32 :=
  divf (shapeCast S256x1 (multiReduction .add [1] S256 v 0x00000000#32 reduces_S256x768_S256 (.inl rfl) rfl) shapeCasts_S256_S256x1)
    (broadcast S256x1 (Scalar.ofBits .f32 0x44400000#32))

/-- Each row less its mean. -/
def cenV (v : FVec F S256x768 .f32) : FVec F S256x768 .f32 :=
  subf v (broadcastTo S256x768 (meanV v) broadcasts_S256x1_S256x768)

/-- The layer norm of each row. -/
def lnV (v : FVec F S256x768 .f32) (g b : Vec F S1x1x768 .f32) : FVec F S256x768 .f32 :=
  addf
    (mulf
      (mulf (cenV v)
        (broadcastTo S256x768
          (divf (broadcast S256x1 (Scalar.ofBits .f32 0x3F800000#32))
            (sqrt (addf (meanV (mulf (cenV v) (cenV v))) (broadcast S256x1 (Scalar.ofBits .f32 0x358637BD#32)))))
          broadcasts_S256x1_S256x768))
      (broadcastTo S256x768 (shapeCast S1x768 g shapeCasts_S1x1x768_S1x768) broadcasts_S1x768_S256x768))
    (broadcastTo S256x768 (shapeCast S1x768 b shapeCasts_S1x1x768_S1x768) broadcasts_S1x768_S256x768)

/-- The largest absolute value of each row of features. -/
def amV (v : FVec F S256x768 .f32) : FVec F S256x1 .f32 :=
  shapeCast S256x1 (multiReduction .maximumf [1] S256 (absf v) 0xFF800000#32 reduces_S256x768_S256 (.inl rfl) rfl) shapeCasts_S256_S256x1

/-- The largest absolute value of each hidden row. -/
def amhV (v : FVec F S256x1536 .f32) : FVec F S256x1 .f32 :=
  shapeCast S256x1 (multiReduction .maximumf [1] S256 (absf v) 0xFF800000#32 reduces_S256x1536_S256 (.inl rfl) rfl) shapeCasts_S256_S256x1

/-- The scale of each row. -/
def scV (a : FVec F S256x1 .f32) : FVec F S256x1 .f32 :=
  select (cmpf .oeq a (broadcast S256x1 (Scalar.ofBits .f32 0x00000000#32)))
    (broadcast S256x1 (Scalar.ofBits .f32 0x3F800000#32))
    (divf a (broadcast S256x1 (Scalar.ofBits .f32 0x43E00000#32)))

/-- The codes of each row under its scale. -/
def cdV (v : FVec F S256x768 .f32) (s : FVec F S256x1 .f32) : FVec F S256x768 .fp8e4m3 :=
  truncf .fp8e4m3
    (minimumf (broadcast S256x768 (Scalar.ofBits .f32 0x43E00000#32))
      (maximumf (broadcast S256x768 (Scalar.ofBits .f32 0xC3E00000#32))
        (divf v (broadcastTo S256x768 s broadcasts_S256x1_S256x768)))) bitsLt_fp8e4m3_f32

/-- The codes of each row, by the reciprocal of its scale. -/
def cdrV (v : FVec F S256x768 .f32) (s : FVec F S256x1 .f32) : FVec F S256x768 .fp8e4m3 :=
  truncf .fp8e4m3
    (minimumf (broadcast S256x768 (Scalar.ofBits .f32 0x43E00000#32))
      (maximumf (broadcast S256x768 (Scalar.ofBits .f32 0xC3E00000#32))
        (mulf v (broadcastTo S256x768 (divf (broadcast S256x1 (Scalar.ofBits .f32 0x3F800000#32)) s) broadcasts_S256x1_S256x768)))) bitsLt_fp8e4m3_f32

/-- The codes of each hidden row, by the reciprocal of its scale. -/
def cdhV (v : FVec F S256x1536 .f32) (s : FVec F S256x1 .f32) : FVec F S256x1536 .fp8e4m3 :=
  truncf .fp8e4m3
    (minimumf (broadcast S256x1536 (Scalar.ofBits .f32 0x43E00000#32))
      (maximumf (broadcast S256x1536 (Scalar.ofBits .f32 0xC3E00000#32))
        (mulf v (broadcastTo S256x1536 (divf (broadcast S256x1 (Scalar.ofBits .f32 0x3F800000#32)) s) broadcasts_S256x1_S256x1536)))) bitsLt_fp8e4m3_f32

/-- The gates of each row. -/
def gtV (v : FVec F S256x768 .f32) (w : Vec F S1x1x768x128 .f32) (b : Vec F S1x1x1x128 .f32) : FVec F S256x128 .f32 :=
  maximumf
    (addf
      (matmul dot_S256x768_S768x128_S256x128_1_0_0_1_n_n (some .fp32) v
        (shapeCast S768x128 w shapeCasts_S1x1x768x128_S768x128) (constant S256x128 .f32 0x00000000#32))
      (broadcastTo S256x128 (shapeCast S1x128 b shapeCasts_S1x1x1x128_S1x128) broadcasts_S1x128_S256x128))
    (broadcast S256x128 (Scalar.ofBits .f32 0x00000000#32))

/-- The hidden layer of one expert before its activation. -/
def hdV (c : FVec F S256x768 .fp8e4m3) (s : FVec F S256x1 .f32) (w : Vec F S1x1x1x768x1536 .fp8e4m3)
    (ws wb : Vec F S1x1x1x1536 .f32) : FVec F S256x1536 .f32 :=
  addf
    (mulf
      (mulf
        (matmul dot_S256x768_S768x1536_S256x1536_1_0_0_1_n_n none c
          (shapeCast S768x1536 w shapeCasts_S1x1x1x768x1536_S768x1536) (constant S256x1536 .f32 0x00000000#32))
        (broadcastTo S256x1536 s broadcasts_S256x1_S256x1536))
      (broadcastTo S256x1536 (shapeCast S1x1536 ws shapeCasts_S1x1x1x1536_S1x1536) broadcasts_S1x1536_S256x1536))
    (broadcastTo S256x1536 (shapeCast S1x1536 wb shapeCasts_S1x1x1x1536_S1x1536) broadcasts_S1x1536_S256x1536)

/-- The gated activation of one expert. -/
def acV (h : FVec F S256x1536 .f32) (g : FVec F S256x1 .f32) : FVec F S256x1536 .f32 :=
  mulf
    (mulf (mulf (broadcast S256x1536 (Scalar.ofBits .f32 0x3F000000#32)) h)
      (addf (broadcast S256x1536 (Scalar.ofBits .f32 0x3F800000#32))
        (erf (mulf h (broadcast S256x1536 (Named.named κ "inv_sqrt_2" 0x3F3504F3#32))))))
    (broadcastTo S256x1536 g broadcasts_S256x1_S256x1536)

/-- The output of one expert. -/
def yV (c : FVec F S256x1536 .fp8e4m3) (s : FVec F S256x1 .f32) (w : Vec F S1x1x1x1536x768 .fp8e4m3)
    (ws : Vec F S1x1x1x768 .f32) : FVec F S256x768 .f32 :=
  mulf
    (mulf
      (matmul dot_S256x1536_S1536x768_S256x768_1_0_0_1_n_n none c
        (shapeCast S1536x768 w shapeCasts_S1x1x1x1536x768_S1536x768) (constant S256x768 .f32 0x00000000#32))
      (broadcastTo S256x768 s broadcasts_S256x1_S256x768))
    (broadcastTo S256x768 (shapeCast S1x768 ws shapeCasts_S1x1x1x768_S1x768) broadcasts_S1x768_S256x768)

/-- The output of one expert, from its gated activation. -/
def eV (u : FVec F S256x1536 .f32) (w : Vec F S1x1x1x1536x768 .fp8e4m3)
    (ws : Vec F S1x1x1x768 .f32) : FVec F S256x768 .f32 :=
  yV (cdhV u (scV (amhV u))) (scV (amhV u)) w ws

end Defs

/-! ## What each step computes at one row -/

section Rows

theorem named_inv_sqrt2 : Named.named (F := Ideal) (φ := .f32) κ "inv_sqrt_2" 0x3F3504F3#32 = (((Real.sqrt 2)⁻¹ : ℝ) : EReal) :=
  IdealRules.named_const.ideal_named_scalar _ _ _ _ rfl

variable (r : Fin 256)

theorem meanV_row (v : FVec Ideal S256x768 .f32) : meanV v (ix2 r 0) = mean fun k => v (ix2 r k) := by
  pointwise [meanV]; rfl

theorem cenV_row (v : FVec Ideal S256x768 .f32) (d : Fin 768) :
    cenV v (ix2 r d) = cen (fun k => v (ix2 r k)) d := by
  pointwise [cenV]; rw [meanV_row]; rfl

theorem lnV_row (v : FVec Ideal S256x768 .f32) (g b : Vec Ideal S1x1x768 .f32) (d : Fin 768) :
    lnV v g b (ix2 r d) = ln (fun k => v (ix2 r k)) (fun k => g (ix3 0 0 k)) (fun k => b (ix3 0 0 k)) d := by
  rw [← ln_eq_recip]
  have h : meanV (mulf (cenV v) (cenV v)) (ix2 r 0) = var fun k => v (ix2 r k) := by
    rw [meanV_row]; unfold var mean
    pointwise []
    simp only [cenV_row]
  pointwise [lnV]
  rw [h, cenV_row]

theorem amV_row (v : FVec Ideal S256x768 .f32) : amV v (ix2 r 0) = amax fun k => v (ix2 r k) := by
  pointwise [amV]; rfl

theorem amhV_row (v : FVec Ideal S256x1536 .f32) : amhV v (ix2 r 0) = amax fun k => v (ix2 r k) := by
  pointwise [amhV]; rfl

theorem scV_row (a : FVec Ideal S256x1 .f32) : scV a (ix2 r 0) = scale (a (ix2 r 0)) := by
  pointwise [scV]; rfl

theorem cdV_row (v : FVec Ideal S256x768 .f32) (s : FVec Ideal S256x1 .f32) (d : Fin 768) :
    cdV v s (ix2 r d) = quant (v (ix2 r d)) (s (ix2 r 0)) := by
  pointwise [cdV]; rfl

theorem cdrV_row (v : FVec Ideal S256x768 .f32) (a : FVec Ideal S256x1 .f32) (d : Fin 768) :
    cdrV v (scV a) (ix2 r d) = quant (v (ix2 r d)) (scale (a (ix2 r 0))) := by
  rw [← quant_eq_recip, ← scV_row]
  pointwise [cdrV]

theorem cdhV_row (v : FVec Ideal S256x1536 .f32) (a : FVec Ideal S256x1 .f32) (d : Fin 1536) :
    cdhV v (scV a) (ix2 r d) = quant (v (ix2 r d)) (scale (a (ix2 r 0))) := by
  rw [← quant_eq_recip, ← scV_row]
  pointwise [cdhV]

theorem gtV_row (v : FVec Ideal S256x768 .f32) (w : Vec Ideal S1x1x768x128 .f32) (b : Vec Ideal S1x1x1x128 .f32)
    (l : Fin 128) :
    gtV v w b (ix2 r l) = gateOf (fun k => v (ix2 r k)) (fun k => w (ix4 0 0 k l)) (b (ix4 0 0 0 l)) := by
  pointwise [gtV]; rfl

theorem hdV_row (c : FVec Ideal S256x768 .fp8e4m3) (s : FVec Ideal S256x1 .f32) (w : Vec Ideal S1x1x1x768x1536 .fp8e4m3)
    (ws wb : Vec Ideal S1x1x1x1536 .f32) (f : Fin 1536) :
    hdV c s w ws wb (ix2 r f) = hidOf (fun k => c (ix2 r k)) (s (ix2 r 0)) (fun k f => w (ix5 0 0 0 k f))
      (fun f => ws (ix4 0 0 0 f)) (fun f => wb (ix4 0 0 0 f)) f := by
  pointwise [hdV]; rfl

theorem acV_row (h : FVec Ideal S256x1536 .f32) (g : FVec Ideal S256x1 .f32) (f : Fin 1536) :
    acV h g (ix2 r f) = act (h (ix2 r f)) * g (ix2 r 0) := by
  unfold act
  rw [← mul_inv_sqrt2, ← named_inv_sqrt2]
  pointwise [acV]

theorem yV_row (c : FVec Ideal S256x1536 .fp8e4m3) (s : FVec Ideal S256x1 .f32) (w : Vec Ideal S1x1x1x1536x768 .fp8e4m3)
    (ws : Vec Ideal S1x1x1x768 .f32) (d : Fin 768) :
    yV c s w ws (ix2 r d) = outOf (fun k => c (ix2 r k)) (s (ix2 r 0)) (fun k f => w (ix5 0 0 0 k f))
      (fun f => ws (ix4 0 0 0 f)) d := by
  pointwise [yV]; rfl

theorem eV_row (u : FVec Ideal S256x1536 .f32) (w : Vec Ideal S1x1x1x1536x768 .fp8e4m3)
    (ws : Vec Ideal S1x1x1x768 .f32) (d : Fin 768) :
    eV u w ws (ix2 r d) =
      outOf (fun f => quant (u (ix2 r f)) (scale (amax fun k => u (ix2 r k)))) (scale (amax fun k => u (ix2 r k)))
        (fun k f => w (ix5 0 0 0 k f)) (fun f => ws (ix4 0 0 0 f)) d := by
  unfold eV
  rw [yV_row]
  simp only [cdhV_row, scV_row, amhV_row]

end Rows

end Mixer
-- ==== Proof.Block.lean ====
module

public import proofs.«01_k».proof.Proof.Vecs

@[expose] public section

/-!
One block of 256 rows of the kernel, from what its body loads: the body's values by name, and what each is
at one row.
-/

set_option maxRecDepth 16384
set_option synthInstance.maxSize 4096
noncomputable section

namespace Mixer

open Idealize.ShloMosaic
open Cert.KernelIdeal Cert.KernelIdeal.Gen

/-- What one run of the body has loaded, with its input rows already added up. -/
structure Blk (F : FTy → Type) where
  /-- The rows that enter the first norm. -/
  v : FVec F S256x768 .f32
  /-- The first norm's gain. -/
  g1 : Vec F S1x1x768 .f32
  /-- The first norm's shift. -/
  c1 : Vec F S1x1x768 .f32
  /-- The router's weights. -/
  wr : Vec F S1x1x768x128 .f32
  /-- The router's shift. -/
  br : Vec F S1x1x1x128 .f32
  /-- The experts' first weights. -/
  w1 : Fin 4 → Vec F S1x1x1x768x1536 .fp8e4m3
  /-- Their scales. -/
  s1 : Fin 4 → Vec F S1x1x1x1536 .f32
  /-- The experts' first shifts. -/
  b1 : Fin 4 → Vec F S1x1x1x1536 .f32
  /-- The experts' second weights. -/
  w2 : Fin 4 → Vec F S1x1x1x1536x768 .fp8e4m3
  /-- Their scales. -/
  s2 : Fin 4 → Vec F S1x1x1x768 .f32
  /-- The second norm's gain. -/
  g2 : Vec F S1x1x768 .f32
  /-- The second norm's shift. -/
  c2 : Vec F S1x1x768 .f32

theorem slices_gate (e : Fin 4) : S256x128.Slices ![0, e.val] S256x1 :=
  match e with
  | 0 => slices_S256x128_o0_0_S256x1
  | 1 => slices_S256x128_o0_1_S256x1
  | 2 => slices_S256x128_o0_2_S256x1
  | 3 => slices_S256x128_o0_3_S256x1

namespace Blk

variable {F : FTy → Type} [FloatOps F] [Named F] (B : Blk F)

/-- The first norm. -/
def X1 : FVec F S256x768 .f32 := lnV B.v B.g1 B.c1
/-- Its scales. -/
def XS : FVec F S256x1 .f32 := scV (amV B.X1)
/-- Its codes. -/
def XC : FVec F S256x768 .fp8e4m3 := cdV B.X1 B.XS
/-- The gates. -/
def G : FVec F S256x128 .f32 := gtV B.X1 B.wr B.br
/-- The gates of one expert. -/
def GC (e : Fin 4) : FVec F S256x1 .f32 := extractStridedSlice S256x1 ![0, e.val] B.G (slices_gate e)
/-- The gated hidden layer. -/
def U (e : Fin 4) : FVec F S256x1536 .f32 := acV (hdV B.XC B.XS (B.w1 e) (B.s1 e) (B.b1 e)) (B.GC e)
/-- Its largest absolute values. -/
def UA (e : Fin 4) : FVec F S256x1 .f32 := amhV (B.U e)
/-- Its codes. -/
def UC (e : Fin 4) : FVec F S256x1536 .fp8e4m3 := cdhV (B.U e) (scV (B.UA e))
/-- The output of one expert. -/
def Y (e : Fin 4) : FVec F S256x768 .f32 := eV (B.U e) (B.w2 e) (B.s2 e)
/-- The experts' outputs together. -/
def M : FVec F S256x768 .f32 := addf (addf (addf (B.Y 0) (B.Y 1)) (B.Y 2)) (B.Y 3)
/-- The largest absolute values of all experts, one lane for each, after the first `n` experts. -/
def AL : Nat → FVec F S256x128 .f32
  | 0 => broadcast S256x128 (Scalar.ofBits .f32 0x00000000#32)
  | n + 1 => select (cmpi .eq (iota .tc S256x128 32 [1] iota_S256x128_d1_w32) (broadcast S256x128 (BitVec.ofNat 32 n)))
      (broadcastTo S256x128 (shapeCast S256x1 (B.UA (Fin.ofNat 4 n)) shapeCasts_S256x1_S256x1) broadcasts_S256x1_S256x128)
      (AL n)
/-- Their scales. -/
def SL : FVec F S256x128 .f32 :=
  select (cmpf .oeq (B.AL 4) (broadcast S256x128 (Scalar.ofBits .f32 0x00000000#32)))
    (broadcast S256x128 (Scalar.ofBits .f32 0x3F800000#32))
    (divf (B.AL 4) (broadcast S256x128 (Scalar.ofBits .f32 0x43E00000#32)))
/-- The second norm. -/
def X2 : FVec F S256x768 .f32 := lnV (addf B.X1 B.M) B.g2 B.c2
/-- Its scales. -/
def QS : FVec F S256x1 .f32 := scV (amV B.X2)
/-- Its codes. -/
def QC : FVec F S256x768 .fp8e4m3 := cdrV B.X2 B.QS

end Blk

/-! ## At one row -/

/-- A router lane of an expert. -/
abbrev lane (e : Fin 4) : Fin 128 := ⟨e.val, by omega⟩

namespace Blk

variable (B : Blk Ideal) (r : Fin 256)

/-- One row that enters the first norm. -/
def row (k : Fin 768) : EReal := B.v (ix2 r k)

/-- The block's parameters. -/
def par : Par where
  g1 k := B.g1 (ix3 0 0 k)
  c1 k := B.c1 (ix3 0 0 k)
  wr k e := B.wr (ix4 0 0 k (lane e))
  br e := B.br (ix4 0 0 0 (lane e))
  w1 e k f := B.w1 e (ix5 0 0 0 k f)
  s1 e f := B.s1 e (ix4 0 0 0 f)
  b1 e f := B.b1 e (ix4 0 0 0 f)
  w2 e f k := B.w2 e (ix5 0 0 0 f k)
  s2 e k := B.s2 e (ix4 0 0 0 k)
  g2 k := B.g2 (ix3 0 0 k)
  c2 k := B.c2 (ix3 0 0 k)

theorem X1_row (d : Fin 768) : B.X1 (ix2 r d) = B.par.x1 (B.row r) d := by
  unfold X1; rw [lnV_row]; rfl

theorem AM_row : amV B.X1 (ix2 r 0) = amax (B.par.x1 (B.row r)) := by
  rw [amV_row]; simp only [X1_row]

theorem XS_row : B.XS (ix2 r 0) = B.par.xs (B.row r) := by
  unfold XS; rw [scV_row, AM_row]; rfl

theorem XC_row (d : Fin 768) : B.XC (ix2 r d) = B.par.xc (B.row r) d := by
  unfold XC; rw [cdV_row, XS_row, X1_row]; rfl

theorem G_row (e : Fin 4) : B.G (ix2 r (lane e)) = B.par.gate (B.row r) e := by
  unfold G; rw [gtV_row]; simp only [X1_row]; rfl

theorem GC_row (e : Fin 4) : B.GC e (ix2 r 0) = B.par.gate (B.row r) e := by
  rw [← G_row]; unfold GC
  pointwise []

theorem U_row (e : Fin 4) (f : Fin 1536) : B.U e (ix2 r f) = B.par.u (B.row r) e f := by
  unfold U; rw [acV_row, hdV_row, XS_row, GC_row]; simp only [XC_row]; rfl

theorem UA_row (e : Fin 4) : B.UA e (ix2 r 0) = B.par.ua (B.row r) e := by
  unfold UA; rw [amhV_row]; simp only [U_row]; rfl

theorem UC_row (e : Fin 4) (f : Fin 1536) : B.UC e (ix2 r f) = B.par.uc (B.row r) e f := by
  unfold UC; rw [cdhV_row, U_row, UA_row]; rfl

theorem Y_row (e : Fin 4) (d : Fin 768) : B.Y e (ix2 r d) = B.par.y (B.row r) e d := by
  unfold Y; rw [eV_row]; simp only [U_row]; rfl

theorem M_row (d : Fin 768) : B.M (ix2 r d) = B.par.moe (B.row r) d := by
  unfold M Par.moe
  pointwise []
  simp only [Y_row, Fin.sum_univ_four]

theorem AL_row (e : Fin 4) : B.AL 4 (ix2 r (lane e)) = B.par.ua (B.row r) e := by
  fin_cases e <;> (
    simp only [AL]
    pointwise []
    simp only [UA_row]
    rfl)

theorem SL_row (e : Fin 4) : B.SL (ix2 r (lane e)) = B.par.us (B.row r) e := by
  unfold Par.us scale
  rw [← AL_row]
  unfold SL
  pointwise []

theorem X2_row (d : Fin 768) : B.X2 (ix2 r d) = B.par.x2 (B.row r) d := by
  unfold X2; rw [lnV_row]
  have h : ∀ k, addf B.X1 B.M (ix2 r k) = B.par.x1 (B.row r) k + B.par.moe (B.row r) k := fun k => by
    rw [← X1_row, ← M_row]
    pointwise []
  simp only [h]; rfl

theorem QA_row : amV B.X2 (ix2 r 0) = amax (B.par.x2 (B.row r)) := by
  rw [amV_row]; simp only [X2_row]

theorem QS_row : B.QS (ix2 r 0) = B.par.qs (B.row r) := by
  unfold QS; rw [scV_row, QA_row]; rfl

theorem QC_row (d : Fin 768) : B.QC (ix2 r d) = B.par.qc (B.row r) d := by
  unfold QC QS; rw [cdrV_row, X2_row, QA_row]; rfl

end Blk

/-- The parameters that a body finds in its blocks. -/
def parB (x2 x3 : Vec Ideal S1x1x768 .f32) (x4 : Vec Ideal S1x1x768x128 .f32)
    (x5 : Vec Ideal S1x1x1x128 .f32) (x6 : Vec Ideal S1x1x4x768x1536 .fp8e4m3) (x7 x8 : Vec Ideal S1x1x4x1536 .f32)
    (x9 : Vec Ideal S1x1x4x1536x768 .fp8e4m3) (x10 : Vec Ideal S1x1x4x768 .f32) (x11 x12 : Vec Ideal S1x1x768 .f32) : Par where
  g1 k := x2 (ix3 0 0 k)
  c1 k := x3 (ix3 0 0 k)
  wr k e := x4 (ix4 0 0 k (lane e))
  br e := x5 (ix4 0 0 0 (lane e))
  w1 e k f := x6 (ix5 0 0 e k f)
  s1 e f := x7 (ix4 0 0 e f)
  b1 e f := x8 (ix4 0 0 e f)
  w2 e f k := x9 (ix5 0 0 e f k)
  s2 e k := x10 (ix4 0 0 e k)
  g2 k := x11 (ix3 0 0 k)
  c2 k := x12 (ix3 0 0 k)

/-- The parameters of one layer at one token, in the arrays that a call is given. -/
def parA (x2 x3 : S2x1x768.Idx → EReal) (x4 : S2x16x768x128.Idx → EReal)
    (x5 : S2x16x1x128.Idx → EReal) (x6 : S2x16x4x768x1536.Idx → EReal) (x7 x8 : S2x16x4x1536.Idx → EReal)
    (x9 : S2x16x4x1536x768.Idx → EReal) (x10 : S2x16x4x768.Idx → EReal) (x11 x12 : S2x1x768.Idx → EReal)
    (i : Fin 2) (t : Fin 16) : Par where
  g1 k := x2 (ix3 i 0 k)
  c1 k := x3 (ix3 i 0 k)
  wr k e := x4 (ix4 i t k (lane e))
  br e := x5 (ix4 i t 0 (lane e))
  w1 e k f := x6 (ix5 i t e k f)
  s1 e f := x7 (ix4 i t e f)
  b1 e f := x8 (ix4 i t e f)
  w2 e f k := x9 (ix5 i t e f k)
  s2 e k := x10 (ix4 i t e k)
  g2 k := x11 (ix3 i 0 k)
  c2 k := x12 (ix3 i 0 k)

end Mixer
-- ==== Proof.Pieces1.lean ====
module

public import proofs.«01_k».proof.Proof.Block
public import proofs.«01_k».proof.Proof.Gen.KernelIdeal.Frame.Region0
public import proofs.«01_k».proof.Proof.Gen.KernelIdeal.Frame.Region1
public import Idealize.ShloMosaic.Lib.Pipeline.ValueKit

@[expose] public section

/-!
What the second call's body leaves in each of its blocks, by the body's named values.
-/

set_option maxRecDepth 16384
set_option synthInstance.maxSize 4096
noncomputable section

namespace Mixer

open Idealize.ShloMosaic
open Idealize.SL.Sem
open Cert.KernelIdeal Cert.KernelIdeal.Gen

section Match

variable {F : FTy → Type} [FloatOps F] [Named F]
variable (x0 x1 : Vec F S1x256x768 .f32) (x2 x3 : Vec F S1x1x768 .f32) (x4 : Vec F S1x1x768x128 .f32)
  (x5 : Vec F S1x1x1x128 .f32) (x6 : Vec F S1x1x4x768x1536 .fp8e4m3) (x7 x8 : Vec F S1x1x4x1536 .f32)
  (x9 : Vec F S1x1x4x1536x768 .fp8e4m3) (x10 : Vec F S1x1x4x768 .f32) (x11 x12 : Vec F S1x1x768 .f32)

/-- What the second call's body has loaded. -/
def B1 : Blk F where
  v := addf (shapeCast S256x768 x1 shapeCasts_S1x256x768_S256x768) (shapeCast S256x768 x0 shapeCasts_S1x256x768_S256x768)
  g1 := x2
  c1 := x3
  wr := x4
  br := x5
  w1 := fun | 0 => View.ld x6 r0_4 | 1 => View.ld x6 r0_9 | 2 => View.ld x6 r0_14 | 3 => View.ld x6 r0_19
  s1 := fun | 0 => View.ld x7 r0_5 | 1 => View.ld x7 r0_10 | 2 => View.ld x7 r0_15 | 3 => View.ld x7 r0_20
  b1 := fun | 0 => View.ld x8 r0_5 | 1 => View.ld x8 r0_10 | 2 => View.ld x8 r0_15 | 3 => View.ld x8 r0_20
  w2 := fun | 0 => View.ld x9 r0_6 | 1 => View.ld x9 r0_11 | 2 => View.ld x9 r0_16 | 3 => View.ld x9 r0_21
  s2 := fun | 0 => View.ld x10 r0_7 | 1 => View.ld x10 r0_12 | 2 => View.ld x10 r0_17 | 3 => View.ld x10 r0_22
  g2 := x11
  c2 := x12

/-- What a block adds to the sum of its gates. -/
def GS (B : Blk F) : FVec F S1x128 .f32 :=
  shapeCast S1x128 (multiReduction .add [0] S128 B.G 0x00000000#32 reduces_S256x128_S128 (.inl rfl) rfl) shapeCasts_S128_S1x128

theorem p1_2 : k1_pay2 x0 x1 x2 x3 = (B1 x0 x1 x2 x3 x4 x5 x6 x7 x8 x9 x10 x11 x12).X1 := rfl

theorem p1_6 : k1_pay6 (k1_pay3 x0 x1 x2 x3) (k1_pay4 x0 x1 x2 x3) k1_pay5 = (B1 x0 x1 x2 x3 x4 x5 x6 x7 x8 x9 x10 x11 x12).XS := rfl

theorem p1_7 : k1_pay7 (B1 x0 x1 x2 x3 x4 x5 x6 x7 x8 x9 x10 x11 x12).X1 (k1_pay3 x0 x1 x2 x3) (k1_pay4 x0 x1 x2 x3) k1_pay5 = (B1 x0 x1 x2 x3 x4 x5 x6 x7 x8 x9 x10 x11 x12).XC := rfl

theorem p1_8 : k1_pay8 (B1 x0 x1 x2 x3 x4 x5 x6 x7 x8 x9 x10 x11 x12).X1 x4 x5 = (B1 x0 x1 x2 x3 x4 x5 x6 x7 x8 x9 x10 x11 x12).G := rfl

theorem p1_9 : k1_pay9 (B1 x0 x1 x2 x3 x4 x5 x6 x7 x8 x9 x10 x11 x12).X1 x4 x5 = (B1 x0 x1 x2 x3 x4 x5 x6 x7 x8 x9 x10 x11 x12).GC 0 := rfl

theorem p1_12 : k1_pay12 (B1 x0 x1 x2 x3 x4 x5 x6 x7 x8 x9 x10 x11 x12).G = (B1 x0 x1 x2 x3 x4 x5 x6 x7 x8 x9 x10 x11 x12).GC 1 := rfl

theorem p1_17 : k1_pay17 (B1 x0 x1 x2 x3 x4 x5 x6 x7 x8 x9 x10 x11 x12).G = (B1 x0 x1 x2 x3 x4 x5 x6 x7 x8 x9 x10 x11 x12).GC 2 := rfl

theorem p1_23 : k1_pay23 (B1 x0 x1 x2 x3 x4 x5 x6 x7 x8 x9 x10 x11 x12).G = (B1 x0 x1 x2 x3 x4 x5 x6 x7 x8 x9 x10 x11 x12).GC 3 := rfl

theorem p1_10 (w : Vec F S1x1x1x768x1536 .fp8e4m3) (s b : Vec F S1x1x1x1536 .f32) : k1_pay10 (B1 x0 x1 x2 x3 x4 x5 x6 x7 x8 x9 x10 x11 x12).X1 (k1_pay3 x0 x1 x2 x3) (k1_pay4 x0 x1 x2 x3) k1_pay5 w s b = hdV (B1 x0 x1 x2 x3 x4 x5 x6 x7 x8 x9 x10 x11 x12).XC (B1 x0 x1 x2 x3 x4 x5 x6 x7 x8 x9 x10 x11 x12).XS w s b := rfl

theorem p1_11 (g : FVec F S256x1 .f32) (h : FVec F S256x1536 .f32) (w2 : Vec F S1x1x1x1536x768 .fp8e4m3) (s2 : Vec F S1x1x1x768 .f32) : k1_pay11 g h w2 s2 = eV (acV h g) w2 s2 := rfl

theorem p1_16 (A : FVec F S256x768 .f32) (xc : FVec F S256x768 .fp8e4m3) (xs g : FVec F S256x1 .f32) (w : Vec F S1x1x1x768x1536 .fp8e4m3) (s b : Vec F S1x1x1x1536 .f32) (w2 : Vec F S1x1x1x1536x768 .fp8e4m3) (s2 : Vec F S1x1x1x768 .f32) : k1_pay16 A (k1_pay14 xs xc g w s b) (FloatOps.ofBits FTy.f32 0x43E00000#32) (k1_pay15 xs xc g w s b) w2 s2 = addf A (eV (acV (hdV xc xs w s b) g) w2 s2) := rfl

theorem p1_22 (A : FVec F S256x768 .f32) (xc : FVec F S256x768 .fp8e4m3) (xs g : FVec F S256x1 .f32) (w : Vec F S1x1x1x768x1536 .fp8e4m3) (s b : Vec F S1x1x1x1536 .f32) (w2 : Vec F S1x1x1x1536x768 .fp8e4m3) (s2 : Vec F S1x1x1x768 .f32) : k1_pay22 A g (k1_pay19 xs xc w s b) (k1_pay20 xs xc w s b) k1_pay21 w2 s2 = addf A (eV (acV (hdV xc xs w s b) g) w2 s2) := rfl

theorem p1_29 (v A : FVec F S256x768 .f32) (xc : FVec F S256x768 .fp8e4m3) (xs g : FVec F S256x1 .f32) (w : Vec F S1x1x1x768x1536 .fp8e4m3) (s b : Vec F S1x1x1x1536 .f32) (w2 : Vec F S1x1x1x1536x768 .fp8e4m3) (s2 : Vec F S1x1x1x768 .f32) (g2 c2 : Vec F S1x1x768 .f32) : k1_pay29 v A (k1_pay27 g (k1_pay24 xc w) (k1_pay25 xs) s b) (k1_pay28 g (k1_pay24 xc w) (k1_pay25 xs) s b) w2 s2 g2 c2 = lnV (addf v (addf A (eV (acV (hdV xc xs w s b) g) w2 s2))) g2 c2 := rfl

theorem p1_30 (v A : FVec F S256x768 .f32) (xc : FVec F S256x768 .fp8e4m3) (xs g : FVec F S256x1 .f32) (w : Vec F S1x1x1x768x1536 .fp8e4m3) (s b : Vec F S1x1x1x1536 .f32) (w2 : Vec F S1x1x1x1536x768 .fp8e4m3) (s2 : Vec F S1x1x1x768 .f32) (g2 c2 : Vec F S1x1x768 .f32) : k1_pay30 v A (k1_pay27 g (k1_pay24 xc w) (k1_pay25 xs) s b) (k1_pay28 g (k1_pay24 xc w) (k1_pay25 xs) s b) w2 s2 g2 c2 = amV (lnV (addf v (addf A (eV (acV (hdV xc xs w s b) g) w2 s2))) g2 c2) := rfl

theorem p1_32 (a : FVec F S256x1 .f32) : k1_pay32 a k1_pay31 = scV a := rfl

theorem p1_33 (v : FVec F S256x768 .f32) (a : FVec F S256x1 .f32) : k1_pay33 v a k1_pay31 = shapeCast S1x256x768 (cdrV v (scV a)) shapeCasts_S256x768_S1x256x768 := rfl

theorem p1_34 (a : FVec F S256x1 .f32) : k1_pay34 a k1_pay31 = shapeCast S1x256x1 (scV a) shapeCasts_S256x1_S1x256x1 := rfl

theorem p1_35 (v : FVec F S256x128 .f32) : k1_pay35 v = shapeCast S1x256x128 v shapeCasts_S256x128_S1x256x128 := rfl

theorem p1_X2 : lnV (addf (B1 x0 x1 x2 x3 x4 x5 x6 x7 x8 x9 x10 x11 x12).X1 (addf (addf (addf (eV (acV (hdV (B1 x0 x1 x2 x3 x4 x5 x6 x7 x8 x9 x10 x11 x12).XC (B1 x0 x1 x2 x3 x4 x5 x6 x7 x8 x9 x10 x11 x12).XS (View.ld x6 r0_4) (View.ld x7 r0_5) (View.ld x8 r0_5)) ((B1 x0 x1 x2 x3 x4 x5 x6 x7 x8 x9 x10 x11 x12).GC 0)) (View.ld x9 r0_6) (View.ld x10 r0_7)) (eV (acV (hdV (B1 x0 x1 x2 x3 x4 x5 x6 x7 x8 x9 x10 x11 x12).XC (B1 x0 x1 x2 x3 x4 x5 x6 x7 x8 x9 x10 x11 x12).XS (View.ld x6 r0_9) (View.ld x7 r0_10) (View.ld x8 r0_10)) ((B1 x0 x1 x2 x3 x4 x5 x6 x7 x8 x9 x10 x11 x12).GC 1)) (View.ld x9 r0_11) (View.ld x10 r0_12))) (eV (acV (hdV (B1 x0 x1 x2 x3 x4 x5 x6 x7 x8 x9 x10 x11 x12).XC (B1 x0 x1 x2 x3 x4 x5 x6 x7 x8 x9 x10 x11 x12).XS (View.ld x6 r0_14) (View.ld x7 r0_15) (View.ld x8 r0_15)) ((B1 x0 x1 x2 x3 x4 x5 x6 x7 x8 x9 x10 x11 x12).GC 2)) (View.ld x9 r0_16) (View.ld x10 r0_17))) (eV (acV (hdV (B1 x0 x1 x2 x3 x4 x5 x6 x7 x8 x9 x10 x11 x12).XC (B1 x0 x1 x2 x3 x4 x5 x6 x7 x8 x9 x10 x11 x12).XS (View.ld x6 r0_19) (View.ld x7 r0_20) (View.ld x8 r0_20)) ((B1 x0 x1 x2 x3 x4 x5 x6 x7 x8 x9 x10 x11 x12).GC 3)) (View.ld x9 r0_21) (View.ld x10 r0_22)))) x11 x12 = (B1 x0 x1 x2 x3 x4 x5 x6 x7 x8 x9 x10 x11 x12).X2 := rfl

variable (V : (c : Dev nD) → (b : Ref sig .tc) → Buf (Elt F) (c.tc.loc b)) (c : Dev nD) (t : Fin cfg1.N)

theorem out1_13_eq : (outsAt1 V c t.val t.isLt).1 =
    shapeCast S1x256x768 (B1 (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (iblk1 V c 11 t) (iblk1 V c 12 t)).QC shapeCasts_S256x768_S1x256x768 := by
  by_cases h0 : t.val % 16 = 0
  · rw [outsAt1_A V c t h0]
    frame_out
    simp only [p1_2 (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (iblk1 V c 11 t) (iblk1 V c 12 t), p1_6 (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (iblk1 V c 11 t) (iblk1 V c 12 t), p1_7 (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (iblk1 V c 11 t) (iblk1 V c 12 t), p1_8 (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (iblk1 V c 11 t) (iblk1 V c 12 t), p1_9 (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (iblk1 V c 11 t) (iblk1 V c 12 t), p1_12 (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (iblk1 V c 11 t) (iblk1 V c 12 t), p1_17 (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (iblk1 V c 11 t) (iblk1 V c 12 t), p1_23 (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (iblk1 V c 11 t) (iblk1 V c 12 t), p1_10 (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (iblk1 V c 11 t) (iblk1 V c 12 t), p1_11, p1_16, p1_22, p1_29, p1_30, p1_32, p1_33, p1_34, p1_35]
    exact congrArg (fun v => shapeCast S1x256x768 (cdrV v (scV (amV v))) shapeCasts_S256x768_S1x256x768) (p1_X2 (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (iblk1 V c 11 t) (iblk1 V c 12 t))
  · rw [outsAt1_B V c t h0]
    frame_out
    simp only [p1_2 (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (iblk1 V c 11 t) (iblk1 V c 12 t), p1_6 (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (iblk1 V c 11 t) (iblk1 V c 12 t), p1_7 (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (iblk1 V c 11 t) (iblk1 V c 12 t), p1_8 (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (iblk1 V c 11 t) (iblk1 V c 12 t), p1_9 (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (iblk1 V c 11 t) (iblk1 V c 12 t), p1_12 (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (iblk1 V c 11 t) (iblk1 V c 12 t), p1_17 (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (iblk1 V c 11 t) (iblk1 V c 12 t), p1_23 (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (iblk1 V c 11 t) (iblk1 V c 12 t), p1_10 (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (iblk1 V c 11 t) (iblk1 V c 12 t), p1_11, p1_16, p1_22, p1_29, p1_30, p1_32, p1_33, p1_34, p1_35]
    exact congrArg (fun v => shapeCast S1x256x768 (cdrV v (scV (amV v))) shapeCasts_S256x768_S1x256x768) (p1_X2 (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (iblk1 V c 11 t) (iblk1 V c 12 t))

theorem out1_14_eq : (outsAt1 V c t.val t.isLt).2.1 =
    shapeCast S1x256x1 (B1 (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (iblk1 V c 11 t) (iblk1 V c 12 t)).QS shapeCasts_S256x1_S1x256x1 := by
  by_cases h0 : t.val % 16 = 0
  · rw [outsAt1_A V c t h0]
    frame_out
    simp only [p1_2 (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (iblk1 V c 11 t) (iblk1 V c 12 t), p1_6 (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (iblk1 V c 11 t) (iblk1 V c 12 t), p1_7 (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (iblk1 V c 11 t) (iblk1 V c 12 t), p1_8 (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (iblk1 V c 11 t) (iblk1 V c 12 t), p1_9 (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (iblk1 V c 11 t) (iblk1 V c 12 t), p1_12 (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (iblk1 V c 11 t) (iblk1 V c 12 t), p1_17 (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (iblk1 V c 11 t) (iblk1 V c 12 t), p1_23 (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (iblk1 V c 11 t) (iblk1 V c 12 t), p1_10 (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (iblk1 V c 11 t) (iblk1 V c 12 t), p1_11, p1_16, p1_22, p1_29, p1_30, p1_32, p1_33, p1_34, p1_35]
    exact congrArg (fun v => shapeCast S1x256x1 (scV (amV v)) shapeCasts_S256x1_S1x256x1) (p1_X2 (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (iblk1 V c 11 t) (iblk1 V c 12 t))
  · rw [outsAt1_B V c t h0]
    frame_out
    simp only [p1_2 (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (iblk1 V c 11 t) (iblk1 V c 12 t), p1_6 (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (iblk1 V c 11 t) (iblk1 V c 12 t), p1_7 (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (iblk1 V c 11 t) (iblk1 V c 12 t), p1_8 (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (iblk1 V c 11 t) (iblk1 V c 12 t), p1_9 (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (iblk1 V c 11 t) (iblk1 V c 12 t), p1_12 (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (iblk1 V c 11 t) (iblk1 V c 12 t), p1_17 (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (iblk1 V c 11 t) (iblk1 V c 12 t), p1_23 (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (iblk1 V c 11 t) (iblk1 V c 12 t), p1_10 (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (iblk1 V c 11 t) (iblk1 V c 12 t), p1_11, p1_16, p1_22, p1_29, p1_30, p1_32, p1_33, p1_34, p1_35]
    exact congrArg (fun v => shapeCast S1x256x1 (scV (amV v)) shapeCasts_S256x1_S1x256x1) (p1_X2 (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (iblk1 V c 11 t) (iblk1 V c 12 t))

theorem out1_15_eq : (outsAt1 V c t.val t.isLt).2.2.1 =
    shapeCast S1x256x128 (B1 (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (iblk1 V c 11 t) (iblk1 V c 12 t)).G shapeCasts_S256x128_S1x256x128 := by
  by_cases h0 : t.val % 16 = 0
  · rw [outsAt1_A V c t h0]
    frame_out
    simp only [p1_2 (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (iblk1 V c 11 t) (iblk1 V c 12 t), p1_6 (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (iblk1 V c 11 t) (iblk1 V c 12 t), p1_7 (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (iblk1 V c 11 t) (iblk1 V c 12 t), p1_8 (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (iblk1 V c 11 t) (iblk1 V c 12 t), p1_9 (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (iblk1 V c 11 t) (iblk1 V c 12 t), p1_12 (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (iblk1 V c 11 t) (iblk1 V c 12 t), p1_17 (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (iblk1 V c 11 t) (iblk1 V c 12 t), p1_23 (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (iblk1 V c 11 t) (iblk1 V c 12 t), p1_10 (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (iblk1 V c 11 t) (iblk1 V c 12 t), p1_35]
  · rw [outsAt1_B V c t h0]
    frame_out
    simp only [p1_2 (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (iblk1 V c 11 t) (iblk1 V c 12 t), p1_6 (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (iblk1 V c 11 t) (iblk1 V c 12 t), p1_7 (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (iblk1 V c 11 t) (iblk1 V c 12 t), p1_8 (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (iblk1 V c 11 t) (iblk1 V c 12 t), p1_9 (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (iblk1 V c 11 t) (iblk1 V c 12 t), p1_12 (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (iblk1 V c 11 t) (iblk1 V c 12 t), p1_17 (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (iblk1 V c 11 t) (iblk1 V c 12 t), p1_23 (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (iblk1 V c 11 t) (iblk1 V c 12 t), p1_10 (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (iblk1 V c 11 t) (iblk1 V c 12 t), p1_35]

/-- The block of gate sums before anything is added. -/
theorem p1_36 : k1_pay36 (F := F) = shapeCast S1x1x128 (broadcast S1x128 (Scalar.ofBits .f32 0x00000000#32)) shapeCasts_S1x128_S1x1x128 := rfl

theorem p1_1 (B : Blk F) (a : Vec F S1x1x128 .f32) : k1_pay1 (k1_pay37 B.G a) =
    shapeCast S1x1x128 (addf (shapeCast S1x128 a shapeCasts_S1x1x128_S1x128) (GS B)) shapeCasts_S1x128_S1x1x128 := rfl

theorem out1_16_A_eq (h0 : t.val % 16 = 0) : (outsAt1 V c t.val t.isLt).2.2.2 =
    shapeCast S1x1x128 (addf (shapeCast S1x128 (k1_pay36 (F := F)) shapeCasts_S1x1x128_S1x128) (GS (B1 (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (iblk1 V c 11 t) (iblk1 V c 12 t)))) shapeCasts_S1x128_S1x1x128 := by
  rw [outsAt1_A V c t h0]
  frame_out
  simp only [p1_2 (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (iblk1 V c 11 t) (iblk1 V c 12 t), p1_6 (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (iblk1 V c 11 t) (iblk1 V c 12 t), p1_7 (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (iblk1 V c 11 t) (iblk1 V c 12 t), p1_8 (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (iblk1 V c 11 t) (iblk1 V c 12 t), p1_9 (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (iblk1 V c 11 t) (iblk1 V c 12 t), p1_12 (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (iblk1 V c 11 t) (iblk1 V c 12 t), p1_17 (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (iblk1 V c 11 t) (iblk1 V c 12 t), p1_23 (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (iblk1 V c 11 t) (iblk1 V c 12 t), p1_10 (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (iblk1 V c 11 t) (iblk1 V c 12 t), p1_1]

theorem out1_16_B_eq (h0 : ¬t.val % 16 = 0) : (outsAt1 V c t.val t.isLt).2.2.2 =
    shapeCast S1x1x128 (addf (shapeCast S1x128 (outsAt1 V c (t.val - 1) (Nat.lt_of_le_of_lt (Nat.sub_le _ _) t.isLt)).2.2.2 shapeCasts_S1x1x128_S1x128) (GS (B1 (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (iblk1 V c 11 t) (iblk1 V c 12 t)))) shapeCasts_S1x128_S1x1x128 := by
  rw [outsAt1_B V c t h0]
  frame_out
  simp only [p1_2 (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (iblk1 V c 11 t) (iblk1 V c 12 t), p1_6 (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (iblk1 V c 11 t) (iblk1 V c 12 t), p1_7 (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (iblk1 V c 11 t) (iblk1 V c 12 t), p1_8 (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (iblk1 V c 11 t) (iblk1 V c 12 t), p1_9 (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (iblk1 V c 11 t) (iblk1 V c 12 t), p1_12 (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (iblk1 V c 11 t) (iblk1 V c 12 t), p1_17 (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (iblk1 V c 11 t) (iblk1 V c 12 t), p1_23 (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (iblk1 V c 11 t) (iblk1 V c 12 t), p1_10 (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (iblk1 V c 11 t) (iblk1 V c 12 t), p1_1]

end Match

section Rows

variable (x0 x1 : Vec Ideal S1x256x768 .f32) (x2 x3 : Vec Ideal S1x1x768 .f32) (x4 : Vec Ideal S1x1x768x128 .f32)
  (x5 : Vec Ideal S1x1x1x128 .f32) (x6 : Vec Ideal S1x1x4x768x1536 .fp8e4m3) (x7 x8 : Vec Ideal S1x1x4x1536 .f32)
  (x9 : Vec Ideal S1x1x4x1536x768 .fp8e4m3) (x10 : Vec Ideal S1x1x4x768 .f32) (x11 x12 : Vec Ideal S1x1x768 .f32)

theorem B1_par : (B1 x0 x1 x2 x3 x4 x5 x6 x7 x8 x9 x10 x11 x12).par = (parB x2 x3 x4 x5 x6 x7 x8 x9 x10 x11 x12) := by
  simp only [Blk.par, parB, Par.mk.injEq]
  refine ⟨?_, ?_, ?_, ?_, ?_, ?_, ?_, ?_, ?_, ?_, ?_⟩
  · funext k; simp only [B1]
  · funext k; simp only [B1]
  · funext k e; simp only [B1]
  · funext e; simp only [B1]
  · funext e k f; fin_cases e <;> (simp only [B1]; pointwise [])
  · funext e f; fin_cases e <;> (simp only [B1]; pointwise [])
  · funext e f; fin_cases e <;> (simp only [B1]; pointwise [])
  · funext e f k; fin_cases e <;> (simp only [B1]; pointwise [])
  · funext e k; fin_cases e <;> (simp only [B1]; pointwise [])
  · funext k; simp only [B1]
  · funext k; simp only [B1]

theorem B1_row (r : Fin 256) : (B1 x0 x1 x2 x3 x4 x5 x6 x7 x8 x9 x10 x11 x12).row r = fun k => x1 (ix3 0 r k) + x0 (ix3 0 r k) := by
  funext k
  simp only [B1, Blk.row]
  pointwise []

theorem qc_row (y : S1x256x768.Idx) : shapeCast S1x256x768 (B1 x0 x1 x2 x3 x4 x5 x6 x7 x8 x9 x10 x11 x12).QC shapeCasts_S256x768_S1x256x768 y =
    (parB x2 x3 x4 x5 x6 x7 x8 x9 x10 x11 x12).qc (fun k => x1 (ix3 0 (y 1) k) + x0 (ix3 0 (y 1) k)) (y 2) := by
  rw [← B1_par x0 x1 x2 x3 x4 x5 x6 x7 x8 x9 x10 x11 x12, ← B1_row x0 x1 x2 x3 x4 x5 x6 x7 x8 x9 x10 x11 x12 (y 1)]
  pointwise []
  exact Blk.QC_row _ _ _

theorem qs_row (y : S1x256x1.Idx) : shapeCast S1x256x1 (B1 x0 x1 x2 x3 x4 x5 x6 x7 x8 x9 x10 x11 x12).QS shapeCasts_S256x1_S1x256x1 y =
    (parB x2 x3 x4 x5 x6 x7 x8 x9 x10 x11 x12).qs (fun k => x1 (ix3 0 (y 1) k) + x0 (ix3 0 (y 1) k)) := by
  rw [← B1_par x0 x1 x2 x3 x4 x5 x6 x7 x8 x9 x10 x11 x12, ← B1_row x0 x1 x2 x3 x4 x5 x6 x7 x8 x9 x10 x11 x12 (y 1)]
  pointwise []
  exact Blk.QS_row _ _

theorem gate_row (y : S1x256x128.Idx) (e : Fin 4) (he : y 2 = lane e) :
    shapeCast S1x256x128 (B1 x0 x1 x2 x3 x4 x5 x6 x7 x8 x9 x10 x11 x12).G shapeCasts_S256x128_S1x256x128 y =
    (parB x2 x3 x4 x5 x6 x7 x8 x9 x10 x11 x12).gate (fun k => x1 (ix3 0 (y 1) k) + x0 (ix3 0 (y 1) k)) e := by
  rw [← B1_par x0 x1 x2 x3 x4 x5 x6 x7 x8 x9 x10 x11 x12, ← B1_row x0 x1 x2 x3 x4 x5 x6 x7 x8 x9 x10 x11 x12 (y 1)]
  pointwise []
  rw [he]
  exact Blk.G_row _ _ _

/-- The gates' sum over a block's rows. -/
theorem gs_row (e : Fin 4) : GS (B1 x0 x1 x2 x3 x4 x5 x6 x7 x8 x9 x10 x11 x12) (ix2 0 (lane e)) =
    ∑ r : Fin 256, (parB x2 x3 x4 x5 x6 x7 x8 x9 x10 x11 x12).gate (fun k => x1 (ix3 0 r k) + x0 (ix3 0 r k)) e := by
  unfold GS
  pointwise []
  refine Finset.sum_congr rfl fun r _ => ?_
  rw [← B1_par x0 x1 x2 x3 x4 x5 x6 x7 x8 x9 x10 x11 x12, ← B1_row x0 x1 x2 x3 x4 x5 x6 x7 x8 x9 x10 x11 x12 r]
  exact Blk.G_row _ _ _

end Rows

end Mixer
-- ==== Proof.Token.lean ====
module

public import proofs.«01_k».proof.Proof.Block
public import proofs.«01_k».proof.Proof.Gen.KernelIdeal.Frame.Region0

@[expose] public section

/-!
The token and the rows of a grid point.
-/

noncomputable section

namespace Mixer

open Idealize.ShloMosaic
open Cert.KernelIdeal Cert.KernelIdeal.Gen

/-- The token of a point. -/
abbrev tok (t : Fin 256) : Fin 16 := ⟨t.val / 16, by omega⟩

/-- A row of a point's block, in the array. -/
abbrev pos (t : Fin 256) (r : Fin 256) : Fin 4096 := ⟨t.val % 16 * 256 + r.val, by omega⟩

/-- The rows that enter the first norm, in the two arrays that a call adds. -/
def vrow (a b : S16x4096x768.Idx → EReal) (t : Fin 16) (r : Fin 4096) (k : Fin 768) : EReal :=
  a (ix3 t r k) + b (ix3 t r k)

/-- The rows that enter the first norm, in two blocks. -/
abbrev rowB (a b : S1x256x768.Idx → EReal) (r : Fin 256) : Fin 768 → EReal :=
  fun k => a (ix3 0 r k) + b (ix3 0 r k)

end Mixer
-- ==== Proof.Sums1.lean ====
module

public import proofs.«01_k».proof.Proof.Pieces1
public import proofs.«01_k».proof.Proof.Token
public import Idealize.ShloMosaic.Lib.Pipeline.Covers

@[expose] public section

/-!
The arrays that the second call leaves, row by row, from the arrays that it is given.
-/

set_option maxRecDepth 16384
noncomputable section

namespace Mixer

open Idealize.ShloMosaic
open Idealize.SL.Sem
open Cert.KernelIdeal Cert.KernelIdeal.Gen

/-- Where each input's blocks lie. -/
theorem idx1 (t : Fin cfg1.N) : win1_0.index t = ![t.val / 16, t.val % 16, 0] ∧ win1_1.index t = ![t.val / 16, t.val % 16, 0] ∧ win1_2.index t = ![1, 0, 0] ∧ win1_3.index t = ![1, 0, 0] ∧ win1_4.index t = ![1, t.val / 16, 0, 0] ∧ win1_5.index t = ![1, t.val / 16, 0, 0] ∧ win1_6.index t = ![1, t.val / 16, 0, 0, 0] ∧ win1_7.index t = ![1, t.val / 16, 0, 0] ∧ win1_8.index t = ![1, t.val / 16, 0, 0] ∧ win1_9.index t = ![1, t.val / 16, 0, 0, 0] ∧ win1_10.index t = ![1, t.val / 16, 0, 0] ∧ win1_11.index t = ![1, 0, 0] ∧ win1_12.index t = ![1, 0, 0] := by
  revert t; decide +kernel

/-- Where each output's blocks lie. -/
theorem odx1 (t : Fin cfg1.N) : win1_13.index t = ![t.val / 16, t.val % 16, 0] ∧ win1_14.index t = ![t.val / 16, t.val % 16, 0] ∧ win1_15.index t = ![t.val / 16, t.val % 16, 0] ∧ win1_16.index t = ![t.val / 16, 0, 0] := by
  revert t; decide +kernel

variable (V : (c : Dev nD) → (b : Ref sig .tc) → Buf (Elt Ideal) ((c.tc : Thread nD τ).loc b)) (c : Dev nD)

/-- The parameters of one layer at each token, in the arrays that the call is given. -/
def pr1 (t : Fin 16) : Par :=
  (parA (V c (Pipeline.arrRef spec1 2)) (V c (Pipeline.arrRef spec1 3)) (V c (Pipeline.arrRef spec1 4)) (V c (Pipeline.arrRef spec1 5)) (V c (Pipeline.arrRef spec1 6)) (V c (Pipeline.arrRef spec1 7)) (V c (Pipeline.arrRef spec1 8)) (V c (Pipeline.arrRef spec1 9)) (V c (Pipeline.arrRef spec1 10)) (V c (Pipeline.arrRef spec1 11)) (V c (Pipeline.arrRef spec1 12)) 1) t

/-- The row that enters the first norm, in the arrays that the call is given. -/
def vr1 : Fin 16 → Fin 4096 → Fin 768 → EReal :=
  vrow (V c (Pipeline.arrRef spec1 1)) (V c (Pipeline.arrRef spec1 0))

set_option maxHeartbeats 2000000 in
theorem par1_blk (t : Fin cfg1.N) : (parB (iblk1 V c 2 t) (iblk1 V c 3 t) (iblk1 V c 4 t) (iblk1 V c 5 t) (iblk1 V c 6 t) (iblk1 V c 7 t) (iblk1 V c 8 t) (iblk1 V c 9 t) (iblk1 V c 10 t) (iblk1 V c 11 t) (iblk1 V c 12 t)) = pr1 V c (tok t) := by
  obtain ⟨-, -, h2, h3, h4, h5, h6, h7, h8, h9, h10, h11, h12⟩ := idx1 t
  simp only [parB, pr1, parA, Par.mk.injEq]
  refine ⟨?_, ?_, ?_, ?_, ?_, ?_, ?_, ?_, ?_, ?_, ?_⟩
  · funext k; blk_ext [iblk1, h2]
  · funext k; blk_ext [iblk1, h3]
  · funext k e; blk_ext [iblk1, h4]
  · funext e; blk_ext [iblk1, h5]
  · funext e k f; blk_ext [iblk1, h6]
  · funext e f; blk_ext [iblk1, h7]
  · funext e f; blk_ext [iblk1, h8]
  · funext e f k; blk_ext [iblk1, h9]
  · funext e k; blk_ext [iblk1, h10]
  · funext k; blk_ext [iblk1, h11]
  · funext k; blk_ext [iblk1, h12]

theorem row1_blk (t : Fin cfg1.N) (r : Fin 256) : rowB (iblk1 V c 1 t) (iblk1 V c 0 t) r = vr1 V c (tok t) (pos t r) := by
  obtain ⟨h0, h1, -⟩ := idx1 t
  funext k
  have e0 : iblk1 V c 0 t (ix3 0 r k) = V c (Pipeline.arrRef spec1 0) (ix3 (tok t) (pos t r) k) := by blk_ext [iblk1, h0]
  have e1 : iblk1 V c 1 t (ix3 0 r k) = V c (Pipeline.arrRef spec1 1) (ix3 (tok t) (pos t r) k) := by blk_ext [iblk1, h1]
  exact congrArg₂ _ e1 e0

theorem arr1_13 : (dat1 V c).arrAt 13 cfg1.N = fun i : S16x4096x768.Idx => (pr1 V c (i 0)).qc (vr1 V c (i 0) (i 1)) (i 2) := by
  refine (dat1 V c).arrAt_eq_of_covers 13 _ (by decide +kernel) fun t _ y => ?_
  obtain ⟨h, -, -, -⟩ := odx1 t
  have hy : ((cfg1.win 13).blk t).view.emb y = (ix3 (tok t) (pos t (y 1)) (y 2) : S16x4096x768.Idx) := by blk_ext [h]
  rw [hy]
  blk_simp
  refine (congrFun ((after1_13 V c t).trans (out1_13_eq V c t)) y).trans ?_
  refine (qc_row _ _ _ _ _ _ _ _ _ _ _ _ _ y).trans ?_
  rw [par1_blk V c t]
  exact congrArg (fun v => (pr1 V c (tok t)).qc v (y 2)) (row1_blk V c t (y 1))

theorem arr1_14 : (dat1 V c).arrAt 14 cfg1.N = fun i : S16x4096x1.Idx => (pr1 V c (i 0)).qs (vr1 V c (i 0) (i 1)) := by
  refine (dat1 V c).arrAt_eq_of_covers 14 _ (by decide +kernel) fun t _ y => ?_
  obtain ⟨-, h, -, -⟩ := odx1 t
  have hy : ((cfg1.win 14).blk t).view.emb y = (ix3 (tok t) (pos t (y 1)) (y 2) : S16x4096x1.Idx) := by blk_ext [h]
  rw [hy]
  blk_simp
  refine (congrFun ((after1_14 V c t).trans (out1_14_eq V c t)) y).trans ?_
  refine (qs_row _ _ _ _ _ _ _ _ _ _ _ _ _ y).trans ?_
  rw [par1_blk V c t]
  exact congrArg (fun v => (pr1 V c (tok t)).qs v) (row1_blk V c t (y 1))

theorem arr1_15 (b : Fin 4096) (t : Fin 16) (e : Fin 4) :
    ((dat1 V c).arrAt 15 cfg1.N : S16x4096x128.Idx → EReal) (ix3 t b (lane e)) = (pr1 V c t).gate (vr1 V c t b) e := by
  refine (dat1 V c).arrAt_forall_of_covers 15 (fun (i : S16x4096x128.Idx) (v : EReal) => ∀ e : Fin 4, i 2 = lane e → v = (pr1 V c (i 0)).gate (vr1 V c (i 0) (i 1)) e)
    (by decide +kernel) (fun t _ y => ?_) (ix3 t b (lane e)) (Memref.isWhole_whole _) e rfl
  obtain ⟨-, -, h, -⟩ := odx1 t
  have hy : ((cfg1.win 15).blk t).view.emb y = (ix3 (tok t) (pos t (y 1)) (y 2) : S16x4096x128.Idx) := by blk_ext [h]
  rw [hy]
  intro e he
  blk_simp
  refine (congrFun ((after1_15 V c t).trans (out1_15_eq V c t)) y).trans ?_
  refine (gate_row _ _ _ _ _ _ _ _ _ _ _ _ _ y e he).trans ?_
  rw [par1_blk V c t]
  exact congrArg (fun v => (pr1 V c (tok t)).gate v e) (row1_blk V c t (y 1))

/-- The gates' sum over a point's rows. -/
theorem gs_blk (t : Fin cfg1.N) (e : Fin 4) : GS (B1 (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (iblk1 V c 11 t) (iblk1 V c 12 t)) (ix2 0 (lane e)) =
    ∑ r : Fin 256, (pr1 V c (tok t)).gate (vr1 V c (tok t) (pos t r)) e := by
  rw [gs_row, par1_blk]
  exact Finset.sum_congr rfl fun r _ => congrArg (fun v => (pr1 V c (tok t)).gate v e) (row1_blk V c t r)

end Mixer
-- ==== Proof.Arrays1.lean ====
module

public import proofs.«01_k».proof.Proof.Sums1
public import Idealize.ShloMosaic.Lib.Pipeline.Covers

@[expose] public section

/-!
The gates' sums that the second call leaves.
-/

set_option maxRecDepth 16384
noncomputable section

namespace Mixer

open Idealize.ShloMosaic
open Idealize.SL.Sem
open Cert.KernelIdeal Cert.KernelIdeal.Gen

/-- Sixteen blocks of 256 rows are the 4096 rows of a token. -/
theorem sum_blocks (f : Fin 16 → Fin 4096 → EReal) (t : Fin 256) (J : Fin 16 → Fin 256)
    (hJ : ∀ s, (J s).val = 16 * (t.val / 16) + s.val) :
    ∑ s : Fin 16, ∑ r : Fin 256, f (tok (J s)) (pos (J s) r) = ∑ b : Fin 4096, f (tok t) b := by
  refine Fin.sum_mul_add_congr fun s k hl => ?_
  have h1 : tok (J s) = tok t := Fin.ext (by have := hJ s; show (J s).val / 16 = t.val / 16; omega)
  have h2 : pos (J s) k = ⟨s.val * 256 + k.val, hl⟩ := Fin.ext (by have := hJ s; show (J s).val % 16 * 256 + k.val = s.val * 256 + k.val; omega)
  rw [h1, h2]

variable (V : (c : Dev nD) → (b : Ref sig .tc) → Buf (Elt Ideal) ((c.tc : Thread nD τ).loc b)) (c : Dev nD)

/-- The gates' sums, after the last row block of a token. -/
theorem sum1_16 (t : Fin cfg1.N) (h : t.val % 16 = 15) (e : Fin 4) :
    (outsAt1 V c t.val t.isLt).2.2.2 (ix3 0 0 (lane e)) = ∑ b : Fin 4096, (pr1 V c (tok t)).gate (vr1 V c (tok t) b) e := by
  have key := Pipeline.eq_sum_fin_of_reset_step_apply_of_flush (N := cfg1.N) (M := EReal)
    (fun n h (e : Fin 4) => ((outsAt1 V c n h).2.2.2 (ix3 0 0 (lane e)) : EReal)) 16 (fun _ => 0)
    (fun t e => ∑ r : Fin 256, (pr1 V c (tok t)).gate (vr1 V c (tok t) (pos t r)) e)
    (fun t h e => by
      refine (congrFun (out1_16_A_eq V c t h) (ix3 0 0 (lane e))).trans ?_
      pointwise [k1_pay36]
      exact gs_blk V c t e)
    (fun t h e => by
      refine (congrFun (out1_16_B_eq V c t h) (ix3 0 0 (lane e))).trans ?_
      pointwise []
      exact congrArg₂ (· + ·) rfl (gs_blk V c t e))
    t h e
  refine key.trans ((zero_add _).trans ?_)
  exact sum_blocks (fun t b => (pr1 V c t).gate (vr1 V c t b) e) t _ fun _ => rfl

theorem arr1_16 (t : Fin 16) (e : Fin 4) :
    ((dat1 V c).arrAt 16 cfg1.N : S16x1x128.Idx → EReal) (ix3 t 0 (lane e)) = ∑ b : Fin 4096, (pr1 V c t).gate (vr1 V c t b) e := by
  refine (dat1 V c).arrAt_forall_of_covers 16 (fun (i : S16x1x128.Idx) (v : EReal) => ∀ e : Fin 4, i 2 = lane e → v = ∑ b : Fin 4096, (pr1 V c (i 0)).gate (vr1 V c (i 0) b) e)
    (by decide +kernel) (fun t hf y => ?_) (ix3 t 0 (lane e)) (Memref.isWhole_whole _) e rfl
  obtain ⟨-, -, -, h⟩ := odx1 t
  have hy : ((cfg1.win 16).blk t).view.emb y = (ix3 (tok t) 0 (y 2) : S16x1x128.Idx) := by blk_ext [h]
  rw [hy]
  intro e he
  blk_simp
  refine (congrFun (after1_16 V c t) y).trans ?_
  have hy' : y = (ix3 0 0 (lane e) : S1x1x128.Idx) := by
    funext a
    match a with
    | ⟨0, _⟩ => exact Subsingleton.elim (α := Fin 1) _ _
    | ⟨1, _⟩ => exact Subsingleton.elim (α := Fin 1) _ _
    | ⟨2, _⟩ => exact he
  rw [hy']
  exact sum1_16 V c t ((flush1_16 t).mp hf) e

end Mixer
-- ==== Proof.Pieces0.lean ====
module

public import proofs.«01_k».proof.Proof.Block
public import proofs.«01_k».proof.Proof.Gen.KernelIdeal.Frame.Region0
public import Idealize.ShloMosaic.Lib.Pipeline.ValueKit

@[expose] public section

/-!
What the first call's body leaves in each of its blocks, by the body's named values.
-/

set_option maxRecDepth 16384
set_option synthInstance.maxSize 4096
noncomputable section

namespace Mixer

open Idealize.ShloMosaic
open Cert.KernelIdeal Cert.KernelIdeal.Gen

section Match

variable {F : FTy → Type} [FloatOps F] [Named F]
variable (x0 x1 : Vec F S1x256x768 .bf16) (x2 x3 : Vec F S1x1x768 .f32) (x4 : Vec F S1x1x768x128 .f32)
  (x5 : Vec F S1x1x1x128 .f32) (x6 : Vec F S1x1x4x768x1536 .fp8e4m3) (x7 x8 : Vec F S1x1x4x1536 .f32)
  (x9 : Vec F S1x1x4x1536x768 .fp8e4m3) (x10 : Vec F S1x1x4x768 .f32) (x11 x12 : Vec F S1x1x768 .f32)

/-- What the first call's body has loaded. -/
def B0 : Blk F where
  v := addf (extf .f32 (shapeCast S256x768 (View.ld x1 r0_0) shapeCasts_S1x256x768_S256x768) bitsLt_bf16_f32)
    (extf .f32 (shapeCast S256x768 (View.ld x0 r0_0) shapeCasts_S1x256x768_S256x768) bitsLt_bf16_f32)
  g1 := View.ld x2 r0_1
  c1 := View.ld x3 r0_1
  wr := View.ld x4 r0_2
  br := View.ld x5 r0_3
  w1 := fun | 0 => View.ld x6 r0_4 | 1 => View.ld x6 r0_9 | 2 => View.ld x6 r0_14 | 3 => View.ld x6 r0_19
  s1 := fun | 0 => View.ld x7 r0_5 | 1 => View.ld x7 r0_10 | 2 => View.ld x7 r0_15 | 3 => View.ld x7 r0_20
  b1 := fun | 0 => View.ld x8 r0_5 | 1 => View.ld x8 r0_10 | 2 => View.ld x8 r0_15 | 3 => View.ld x8 r0_20
  w2 := fun | 0 => View.ld x9 r0_6 | 1 => View.ld x9 r0_11 | 2 => View.ld x9 r0_16 | 3 => View.ld x9 r0_21
  s2 := fun | 0 => View.ld x10 r0_7 | 1 => View.ld x10 r0_12 | 2 => View.ld x10 r0_17 | 3 => View.ld x10 r0_22
  g2 := View.ld x11 r0_1
  c2 := View.ld x12 r0_1

theorem out0_13_eq :
    out0_13 x0 x1 x2 x3 x4 x5 x6 x7 x8 x9 x10 x11 x12 =
      View.canon [⟨r0_0, shapeCast S1x256x768 (B0 x0 x1 x2 x3 x4 x5 x6 x7 x8 x9 x10 x11 x12).X2 shapeCasts_S256x768_S1x256x768⟩] := rfl

theorem out0_14_eq :
    out0_14 x0 x1 x2 x3 x4 x5 x6 x7 x8 x9 x10 x11 x12 =
      View.canon [⟨r0_0, shapeCast S1x256x768 (B0 x0 x1 x2 x3 x4 x5 x6 x7 x8 x9 x10 x11 x12).M shapeCasts_S256x768_S1x256x768⟩] := rfl

theorem out0_15_eq :
    out0_15 x0 x1 x2 x3 x4 x5 x6 x7 x8 x9 x10 x11 x12 =
      View.canon [⟨r0_24, shapeCast S1x256x128 ((B0 x0 x1 x2 x3 x4 x5 x6 x7 x8 x9 x10 x11 x12).AL 4) shapeCasts_S256x128_S1x256x128⟩] := rfl

theorem out0_16_eq :
    out0_16 x0 x1 x2 x3 x4 x5 x6 x7 x8 x9 x10 x11 x12 =
      View.canon [⟨r0_0, shapeCast S1x256x768 (B0 x0 x1 x2 x3 x4 x5 x6 x7 x8 x9 x10 x11 x12).XC shapeCasts_S256x768_S1x256x768⟩] := rfl

theorem out0_17_eq :
    out0_17 x0 x1 x2 x3 x4 x5 x6 x7 x8 x9 x10 x11 x12 =
      View.canon [⟨r0_25, shapeCast S1x256x1 (B0 x0 x1 x2 x3 x4 x5 x6 x7 x8 x9 x10 x11 x12).XS shapeCasts_S256x1_S1x256x1⟩] := rfl

theorem out0_18_eq :
    out0_18 x0 x1 x2 x3 x4 x5 x6 x7 x8 x9 x10 x11 x12 =
      View.canon [⟨r0_24, shapeCast S1x256x128 (B0 x0 x1 x2 x3 x4 x5 x6 x7 x8 x9 x10 x11 x12).SL shapeCasts_S256x128_S1x256x128⟩] := rfl

theorem out0_19_eq :
    out0_19 x0 x1 x2 x3 x4 x5 x6 x7 x8 x9 x10 x11 x12 =
      View.canon [⟨r0_23, shapeCast S1x1x256x1536 ((B0 x0 x1 x2 x3 x4 x5 x6 x7 x8 x9 x10 x11 x12).UC 3) shapeCasts_S256x1536_S1x1x256x1536⟩,
        ⟨r0_18, shapeCast S1x1x256x1536 ((B0 x0 x1 x2 x3 x4 x5 x6 x7 x8 x9 x10 x11 x12).UC 2) shapeCasts_S256x1536_S1x1x256x1536⟩,
        ⟨r0_13, shapeCast S1x1x256x1536 ((B0 x0 x1 x2 x3 x4 x5 x6 x7 x8 x9 x10 x11 x12).UC 1) shapeCasts_S256x1536_S1x1x256x1536⟩,
        ⟨r0_8, shapeCast S1x1x256x1536 ((B0 x0 x1 x2 x3 x4 x5 x6 x7 x8 x9 x10 x11 x12).UC 0) shapeCasts_S256x1536_S1x1x256x1536⟩] := rfl

end Match

section Rows

variable (x0 x1 : Vec Ideal S1x256x768 .bf16) (x2 x3 : Vec Ideal S1x1x768 .f32) (x4 : Vec Ideal S1x1x768x128 .f32)
  (x5 : Vec Ideal S1x1x1x128 .f32) (x6 : Vec Ideal S1x1x4x768x1536 .fp8e4m3) (x7 x8 : Vec Ideal S1x1x4x1536 .f32)
  (x9 : Vec Ideal S1x1x4x1536x768 .fp8e4m3) (x10 : Vec Ideal S1x1x4x768 .f32) (x11 x12 : Vec Ideal S1x1x768 .f32)

theorem B0_par : (B0 x0 x1 x2 x3 x4 x5 x6 x7 x8 x9 x10 x11 x12).par = (parB x2 x3 x4 x5 x6 x7 x8 x9 x10 x11 x12) := by
  simp only [Blk.par, parB, Par.mk.injEq]
  refine ⟨?_, ?_, ?_, ?_, ?_, ?_, ?_, ?_, ?_, ?_, ?_⟩
  · funext k; simp only [B0]; pointwise []
  · funext k; simp only [B0]; pointwise []
  · funext k e; simp only [B0]; pointwise []
  · funext e; simp only [B0]; pointwise []
  · funext e k f; fin_cases e <;> (simp only [B0]; pointwise [])
  · funext e f; fin_cases e <;> (simp only [B0]; pointwise [])
  · funext e f; fin_cases e <;> (simp only [B0]; pointwise [])
  · funext e f k; fin_cases e <;> (simp only [B0]; pointwise [])
  · funext e k; fin_cases e <;> (simp only [B0]; pointwise [])
  · funext k; simp only [B0]; pointwise []
  · funext k; simp only [B0]; pointwise []

theorem B0_row (r : Fin 256) : (B0 x0 x1 x2 x3 x4 x5 x6 x7 x8 x9 x10 x11 x12).row r = fun k => x1 (ix3 0 r k) + x0 (ix3 0 r k) := by
  funext k
  simp only [B0, Blk.row]
  pointwise []

theorem out0_13_row (y : S1x256x768.Idx) : out0_13 x0 x1 x2 x3 x4 x5 x6 x7 x8 x9 x10 x11 x12 y =
    (parB x2 x3 x4 x5 x6 x7 x8 x9 x10 x11 x12).x2 (fun k => x1 (ix3 0 (y 1) k) + x0 (ix3 0 (y 1) k)) (y 2) := by
  rw [out0_13_eq, ← B0_par x0 x1 x2 x3 x4 x5 x6 x7 x8 x9 x10 x11 x12, ← B0_row x0 x1 x2 x3 x4 x5 x6 x7 x8 x9 x10 x11 x12 (y 1)]
  frame_out
  pointwise []
  exact Blk.X2_row _ _ _

theorem out0_14_row (y : S1x256x768.Idx) : out0_14 x0 x1 x2 x3 x4 x5 x6 x7 x8 x9 x10 x11 x12 y =
    (parB x2 x3 x4 x5 x6 x7 x8 x9 x10 x11 x12).moe (fun k => x1 (ix3 0 (y 1) k) + x0 (ix3 0 (y 1) k)) (y 2) := by
  rw [out0_14_eq, ← B0_par x0 x1 x2 x3 x4 x5 x6 x7 x8 x9 x10 x11 x12, ← B0_row x0 x1 x2 x3 x4 x5 x6 x7 x8 x9 x10 x11 x12 (y 1)]
  frame_out
  pointwise []
  exact Blk.M_row _ _ _

theorem out0_16_row (y : S1x256x768.Idx) : out0_16 x0 x1 x2 x3 x4 x5 x6 x7 x8 x9 x10 x11 x12 y =
    (parB x2 x3 x4 x5 x6 x7 x8 x9 x10 x11 x12).xc (fun k => x1 (ix3 0 (y 1) k) + x0 (ix3 0 (y 1) k)) (y 2) := by
  rw [out0_16_eq, ← B0_par x0 x1 x2 x3 x4 x5 x6 x7 x8 x9 x10 x11 x12, ← B0_row x0 x1 x2 x3 x4 x5 x6 x7 x8 x9 x10 x11 x12 (y 1)]
  frame_out
  pointwise []
  exact Blk.XC_row _ _ _

theorem out0_17_row (y : S1x256x1.Idx) : out0_17 x0 x1 x2 x3 x4 x5 x6 x7 x8 x9 x10 x11 x12 y =
    (parB x2 x3 x4 x5 x6 x7 x8 x9 x10 x11 x12).xs (fun k => x1 (ix3 0 (y 1) k) + x0 (ix3 0 (y 1) k)) := by
  rw [out0_17_eq, ← B0_par x0 x1 x2 x3 x4 x5 x6 x7 x8 x9 x10 x11 x12, ← B0_row x0 x1 x2 x3 x4 x5 x6 x7 x8 x9 x10 x11 x12 (y 1)]
  frame_out
  pointwise []
  exact Blk.XS_row _ _

theorem out0_15_row (y : S1x256x128.Idx) (e : Fin 4) (he : y 2 = lane e) : out0_15 x0 x1 x2 x3 x4 x5 x6 x7 x8 x9 x10 x11 x12 y =
    (parB x2 x3 x4 x5 x6 x7 x8 x9 x10 x11 x12).ua (fun k => x1 (ix3 0 (y 1) k) + x0 (ix3 0 (y 1) k)) e := by
  rw [out0_15_eq, ← B0_par x0 x1 x2 x3 x4 x5 x6 x7 x8 x9 x10 x11 x12, ← B0_row x0 x1 x2 x3 x4 x5 x6 x7 x8 x9 x10 x11 x12 (y 1)]
  frame_out
  pointwise []
  rw [he]
  exact Blk.AL_row _ _ _

theorem out0_18_row (y : S1x256x128.Idx) (e : Fin 4) (he : y 2 = lane e) : out0_18 x0 x1 x2 x3 x4 x5 x6 x7 x8 x9 x10 x11 x12 y =
    (parB x2 x3 x4 x5 x6 x7 x8 x9 x10 x11 x12).us (fun k => x1 (ix3 0 (y 1) k) + x0 (ix3 0 (y 1) k)) e := by
  rw [out0_18_eq, ← B0_par x0 x1 x2 x3 x4 x5 x6 x7 x8 x9 x10 x11 x12, ← B0_row x0 x1 x2 x3 x4 x5 x6 x7 x8 x9 x10 x11 x12 (y 1)]
  frame_out
  pointwise []
  rw [he]
  exact Blk.SL_row _ _ _

theorem out0_19_row (y : S1x4x256x1536.Idx) : out0_19 x0 x1 x2 x3 x4 x5 x6 x7 x8 x9 x10 x11 x12 y =
    (parB x2 x3 x4 x5 x6 x7 x8 x9 x10 x11 x12).uc (fun k => x1 (ix3 0 (y 2) k) + x0 (ix3 0 (y 2) k)) (y 1) (y 3) := by
  rw [out0_19_eq, ← B0_par x0 x1 x2 x3 x4 x5 x6 x7 x8 x9 x10 x11 x12, ← B0_row x0 x1 x2 x3 x4 x5 x6 x7 x8 x9 x10 x11 x12 (y 2)]
  have key : ∀ (e : Fin 4) (x : S1x1x256x1536.Idx), (y 1).val = e.val + (x 1).val → (y 2).val = (x 2).val →
      (y 3).val = (x 3).val →
      shapeCast S1x1x256x1536 ((B0 x0 x1 x2 x3 x4 x5 x6 x7 x8 x9 x10 x11 x12).UC e) shapeCasts_S256x1536_S1x1x256x1536 x =
        (B0 x0 x1 x2 x3 x4 x5 x6 x7 x8 x9 x10 x11 x12).par.uc ((B0 x0 x1 x2 x3 x4 x5 x6 x7 x8 x9 x10 x11 x12).row (y 2)) (y 1) (y 3) := by
    intro e x h1 h2 h3
    have e1 : y 1 = e := Fin.ext (by have : (x 1).val < 1 := (x 1).isLt; omega)
    have e2 : y 2 = x 2 := Fin.ext h2
    have e3 : y 3 = x 3 := Fin.ext h3
    rw [e1, e2, e3]
    pointwise []
    exact Blk.UC_row _ _ _ _
  canon_tiles x h
  · exact key 3 x (by omega) (by omega) (by omega)
  · exact key 2 x (by omega) (by omega) (by omega)
  · exact key 1 x (by omega) (by omega) (by omega)
  · exact key 0 x (by omega) (by omega) (by omega)

end Rows

end Mixer
-- ==== Proof.Arrays0.lean ====
module

public import proofs.«01_k».proof.Proof.Pieces0
public import proofs.«01_k».proof.Proof.Token
public import Idealize.ShloMosaic.Lib.Pipeline.Covers

@[expose] public section

/-!
The arrays that the first call leaves, row by row, from the arrays that it is given.
-/

set_option maxRecDepth 16384
noncomputable section

namespace Mixer

open Idealize.ShloMosaic
open Idealize.SL.Sem
open Cert.KernelIdeal Cert.KernelIdeal.Gen

/-- Where each input's blocks lie. -/
theorem idx0 (t : Fin cfg0.N) : win0_0.index t = ![t.val / 16, t.val % 16, 0] ∧ win0_1.index t = ![t.val / 16, t.val % 16, 0] ∧ win0_2.index t = ![0, 0, 0] ∧ win0_3.index t = ![0, 0, 0] ∧ win0_4.index t = ![0, t.val / 16, 0, 0] ∧ win0_5.index t = ![0, t.val / 16, 0, 0] ∧ win0_6.index t = ![0, t.val / 16, 0, 0, 0] ∧ win0_7.index t = ![0, t.val / 16, 0, 0] ∧ win0_8.index t = ![0, t.val / 16, 0, 0] ∧ win0_9.index t = ![0, t.val / 16, 0, 0, 0] ∧ win0_10.index t = ![0, t.val / 16, 0, 0] ∧ win0_11.index t = ![0, 0, 0] ∧ win0_12.index t = ![0, 0, 0] := by
  revert t; decide +kernel

/-- Where each output's blocks lie. -/
theorem odx0 (t : Fin cfg0.N) : win0_13.index t = ![t.val / 16, t.val % 16, 0] ∧ win0_14.index t = ![t.val / 16, t.val % 16, 0] ∧ win0_15.index t = ![t.val / 16, t.val % 16, 0] ∧ win0_16.index t = ![t.val / 16, t.val % 16, 0] ∧ win0_17.index t = ![t.val / 16, t.val % 16, 0] ∧ win0_18.index t = ![t.val / 16, t.val % 16, 0] ∧ win0_19.index t = ![t.val / 16, 0, t.val % 16, 0] := by
  revert t; decide +kernel

variable (V : (c : Dev nD) → (b : Ref sig .tc) → Buf (Elt Ideal) ((c.tc : Thread nD τ).loc b)) (c : Dev nD)

/-- The parameters of one layer at each token, in the arrays that the call is given. -/
def pr0 (t : Fin 16) : Par :=
  (parA (V c (Pipeline.arrRef spec0 2)) (V c (Pipeline.arrRef spec0 3)) (V c (Pipeline.arrRef spec0 4)) (V c (Pipeline.arrRef spec0 5)) (V c (Pipeline.arrRef spec0 6)) (V c (Pipeline.arrRef spec0 7)) (V c (Pipeline.arrRef spec0 8)) (V c (Pipeline.arrRef spec0 9)) (V c (Pipeline.arrRef spec0 10)) (V c (Pipeline.arrRef spec0 11)) (V c (Pipeline.arrRef spec0 12)) 0) t

/-- The row that enters the first norm, in the arrays that the call is given. -/
def vr0 : Fin 16 → Fin 4096 → Fin 768 → EReal :=
  vrow (V c (Pipeline.arrRef spec0 1)) (V c (Pipeline.arrRef spec0 0))

set_option maxHeartbeats 2000000 in
theorem par0_blk (t : Fin cfg0.N) : (parB (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t) (iblk0 V c 12 t)) = pr0 V c (tok t) := by
  obtain ⟨-, -, h2, h3, h4, h5, h6, h7, h8, h9, h10, h11, h12⟩ := idx0 t
  simp only [parB, pr0, parA, Par.mk.injEq]
  refine ⟨?_, ?_, ?_, ?_, ?_, ?_, ?_, ?_, ?_, ?_, ?_⟩
  · funext k; blk_ext [iblk0, h2]
  · funext k; blk_ext [iblk0, h3]
  · funext k e; blk_ext [iblk0, h4]
  · funext e; blk_ext [iblk0, h5]
  · funext e k f; blk_ext [iblk0, h6]
  · funext e f; blk_ext [iblk0, h7]
  · funext e f; blk_ext [iblk0, h8]
  · funext e f k; blk_ext [iblk0, h9]
  · funext e k; blk_ext [iblk0, h10]
  · funext k; blk_ext [iblk0, h11]
  · funext k; blk_ext [iblk0, h12]

theorem row0_blk (t : Fin cfg0.N) (r : Fin 256) : rowB (iblk0 V c 1 t) (iblk0 V c 0 t) r = vr0 V c (tok t) (pos t r) := by
  obtain ⟨h0, h1, -⟩ := idx0 t
  funext k
  have e0 : iblk0 V c 0 t (ix3 0 r k) = V c (Pipeline.arrRef spec0 0) (ix3 (tok t) (pos t r) k) := by blk_ext [iblk0, h0]
  have e1 : iblk0 V c 1 t (ix3 0 r k) = V c (Pipeline.arrRef spec0 1) (ix3 (tok t) (pos t r) k) := by blk_ext [iblk0, h1]
  exact congrArg₂ _ e1 e0

theorem arr0_13 : (dat0 V c).arrAt 13 cfg0.N = fun i : S16x4096x768.Idx => (pr0 V c (i 0)).x2 (vr0 V c (i 0) (i 1)) (i 2) := by
  refine (dat0 V c).arrAt_eq_of_covers 13 _ (by decide +kernel) fun t _ y => ?_
  obtain ⟨h, -, -, -, -, -, -⟩ := odx0 t
  have hy : ((cfg0.win 13).blk t).view.emb y = (ix3 (tok t) (pos t (y 1)) (y 2) : S16x4096x768.Idx) := by blk_ext [h]
  rw [hy]
  blk_simp
  refine (congrFun (after0_13 V c t) y).trans ?_
  refine (out0_13_row _ _ _ _ _ _ _ _ _ _ _ _ _ y).trans ?_
  rw [par0_blk V c t]
  exact congrArg (fun v => (pr0 V c (tok t)).x2 v (y 2)) (row0_blk V c t (y 1))

theorem arr0_14 : (dat0 V c).arrAt 14 cfg0.N = fun i : S16x4096x768.Idx => (pr0 V c (i 0)).moe (vr0 V c (i 0) (i 1)) (i 2) := by
  refine (dat0 V c).arrAt_eq_of_covers 14 _ (by decide +kernel) fun t _ y => ?_
  obtain ⟨-, h, -, -, -, -, -⟩ := odx0 t
  have hy : ((cfg0.win 14).blk t).view.emb y = (ix3 (tok t) (pos t (y 1)) (y 2) : S16x4096x768.Idx) := by blk_ext [h]
  rw [hy]
  blk_simp
  refine (congrFun (after0_14 V c t) y).trans ?_
  refine (out0_14_row _ _ _ _ _ _ _ _ _ _ _ _ _ y).trans ?_
  rw [par0_blk V c t]
  exact congrArg (fun v => (pr0 V c (tok t)).moe v (y 2)) (row0_blk V c t (y 1))

theorem arr0_16 : (dat0 V c).arrAt 16 cfg0.N = fun i : S16x4096x768.Idx => (pr0 V c (i 0)).xc (vr0 V c (i 0) (i 1)) (i 2) := by
  refine (dat0 V c).arrAt_eq_of_covers 16 _ (by decide +kernel) fun t _ y => ?_
  obtain ⟨-, -, -, h, -, -, -⟩ := odx0 t
  have hy : ((cfg0.win 16).blk t).view.emb y = (ix3 (tok t) (pos t (y 1)) (y 2) : S16x4096x768.Idx) := by blk_ext [h]
  rw [hy]
  blk_simp
  refine (congrFun (after0_16 V c t) y).trans ?_
  refine (out0_16_row _ _ _ _ _ _ _ _ _ _ _ _ _ y).trans ?_
  rw [par0_blk V c t]
  exact congrArg (fun v => (pr0 V c (tok t)).xc v (y 2)) (row0_blk V c t (y 1))

theorem arr0_17 : (dat0 V c).arrAt 17 cfg0.N = fun i : S16x4096x1.Idx => (pr0 V c (i 0)).xs (vr0 V c (i 0) (i 1)) := by
  refine (dat0 V c).arrAt_eq_of_covers 17 _ (by decide +kernel) fun t _ y => ?_
  obtain ⟨-, -, -, -, h, -, -⟩ := odx0 t
  have hy : ((cfg0.win 17).blk t).view.emb y = (ix3 (tok t) (pos t (y 1)) (y 2) : S16x4096x1.Idx) := by blk_ext [h]
  rw [hy]
  blk_simp
  refine (congrFun (after0_17 V c t) y).trans ?_
  refine (out0_17_row _ _ _ _ _ _ _ _ _ _ _ _ _ y).trans ?_
  rw [par0_blk V c t]
  exact congrArg (fun v => (pr0 V c (tok t)).xs v) (row0_blk V c t (y 1))

theorem arr0_15 (b : Fin 4096) (t : Fin 16) (e : Fin 4) :
    ((dat0 V c).arrAt 15 cfg0.N : S16x4096x128.Idx → EReal) (ix3 t b (lane e)) = (pr0 V c t).ua (vr0 V c t b) e := by
  refine (dat0 V c).arrAt_forall_of_covers 15 (fun (i : S16x4096x128.Idx) (v : EReal) => ∀ e : Fin 4, i 2 = lane e → v = (pr0 V c (i 0)).ua (vr0 V c (i 0) (i 1)) e)
    (by decide +kernel) (fun t _ y => ?_) (ix3 t b (lane e)) (Memref.isWhole_whole _) e rfl
  obtain ⟨-, -, h, -, -, -, -⟩ := odx0 t
  have hy : ((cfg0.win 15).blk t).view.emb y = (ix3 (tok t) (pos t (y 1)) (y 2) : S16x4096x128.Idx) := by blk_ext [h]
  rw [hy]
  intro e he
  blk_simp
  refine (congrFun (after0_15 V c t) y).trans ?_
  refine (out0_15_row _ _ _ _ _ _ _ _ _ _ _ _ _ y e he).trans ?_
  rw [par0_blk V c t]
  exact congrArg (fun v => (pr0 V c (tok t)).ua v e) (row0_blk V c t (y 1))

theorem arr0_18 (b : Fin 4096) (t : Fin 16) (e : Fin 4) :
    ((dat0 V c).arrAt 18 cfg0.N : S16x4096x128.Idx → EReal) (ix3 t b (lane e)) = (pr0 V c t).us (vr0 V c t b) e := by
  refine (dat0 V c).arrAt_forall_of_covers 18 (fun (i : S16x4096x128.Idx) (v : EReal) => ∀ e : Fin 4, i 2 = lane e → v = (pr0 V c (i 0)).us (vr0 V c (i 0) (i 1)) e)
    (by decide +kernel) (fun t _ y => ?_) (ix3 t b (lane e)) (Memref.isWhole_whole _) e rfl
  obtain ⟨-, -, -, -, -, h, -⟩ := odx0 t
  have hy : ((cfg0.win 18).blk t).view.emb y = (ix3 (tok t) (pos t (y 1)) (y 2) : S16x4096x128.Idx) := by blk_ext [h]
  rw [hy]
  intro e he
  blk_simp
  refine (congrFun (after0_18 V c t) y).trans ?_
  refine (out0_18_row _ _ _ _ _ _ _ _ _ _ _ _ _ y e he).trans ?_
  rw [par0_blk V c t]
  exact congrArg (fun v => (pr0 V c (tok t)).us v e) (row0_blk V c t (y 1))

theorem arr0_19 : (dat0 V c).arrAt 19 cfg0.N = fun i : S16x4x4096x1536.Idx => (pr0 V c (i 0)).uc (vr0 V c (i 0) (i 2)) (i 1) (i 3) := by
  refine (dat0 V c).arrAt_eq_of_covers 19 _ (by decide +kernel) fun t _ y => ?_
  obtain ⟨-, -, -, -, -, -, h⟩ := odx0 t
  have hy : ((cfg0.win 19).blk t).view.emb y = (ix4 (tok t) (y 1) (pos t (y 2)) (y 3) : S16x4x4096x1536.Idx) := by blk_ext [h]
  rw [hy]
  blk_simp
  refine (congrFun (after0_19 V c t) y).trans ?_
  refine (out0_19_row _ _ _ _ _ _ _ _ _ _ _ _ _ y).trans ?_
  rw [par0_blk V c t]
  exact congrArg (fun v => (pr0 V c (tok t)).uc v (y 1) (y 3)) (row0_blk V c t (y 2))

end Mixer
-- ==== Proof.Args.lean ====
module

public import proofs.«01_k».proof.Proof.Spec

@[expose] public section

/-!
The two layers, from the arguments: the mixing of the tokens, the parameters of each layer at each token, and
the results.
-/

noncomputable section

namespace Mixer

open Idealize.ShloMosaic

/-- The number of rows. -/
abbrev c4096 : EReal := Ideal.ofBits .f32 0x45800000#32

/-- The arguments: the input, and for each layer the two norms, the router and the experts. -/
structure Args where
  /-- The input. -/
  x : Fin 4096 → Fin 16 → Fin 768 → EReal
  /-- The first norms' gains. -/
  g1 : Fin 2 → Fin 768 → EReal
  /-- The first norms' shifts. -/
  c1 : Fin 2 → Fin 768 → EReal
  /-- The routers' weights. -/
  wr : Fin 2 → Fin 16 → Fin 768 → Fin 4 → EReal
  /-- The routers' shifts. -/
  br : Fin 2 → Fin 16 → Fin 4 → EReal
  /-- The experts' first weights, as codes. -/
  w1 : Fin 2 → Fin 16 → Fin 4 → Fin 768 → Fin 1536 → EReal
  /-- Their scales. -/
  s1 : Fin 2 → Fin 16 → Fin 4 → Fin 1536 → EReal
  /-- The experts' first shifts. -/
  b1 : Fin 2 → Fin 16 → Fin 4 → Fin 1536 → EReal
  /-- The experts' second weights, as codes. -/
  w2 : Fin 2 → Fin 16 → Fin 4 → Fin 1536 → Fin 768 → EReal
  /-- Their scales. -/
  s2 : Fin 2 → Fin 16 → Fin 4 → Fin 768 → EReal
  /-- The second norms' gains. -/
  g2 : Fin 2 → Fin 768 → EReal
  /-- The second norms' shifts. -/
  c2 : Fin 2 → Fin 768 → EReal

/-- A row of one token with the rows of all tokens mixed in: the `t`-th 48 entries of each token. -/
def mix (X : Fin 4096 → Fin 16 → Fin 768 → EReal) (b : Fin 4096) (t : Fin 16) (d : Fin 768) : EReal :=
  X b ⟨d.val / 48, by omega⟩ ⟨t.val * 48 + d.val % 48, by omega⟩ + X b t d

namespace Args

variable (A : Args)

/-- The parameters of layer `i` at token `t`. -/
def par (i : Fin 2) (t : Fin 16) : Par where
  g1 := A.g1 i
  c1 := A.c1 i
  wr := A.wr i t
  br := A.br i t
  w1 := A.w1 i t
  s1 := A.s1 i t
  b1 := A.b1 i t
  w2 := A.w2 i t
  s2 := A.s2 i t
  g2 := A.g2 i
  c2 := A.c2 i

/-- The rows that enter the first layer's first norm. -/
def v0 : Fin 4096 → Fin 16 → Fin 768 → EReal := mix A.x
/-- What the first layer gives. -/
def y0 (b : Fin 4096) (t : Fin 16) : Fin 768 → EReal := (A.par 0 t).x2 (A.v0 b t)
/-- The rows that enter the second layer's first norm. -/
def v1 : Fin 4096 → Fin 16 → Fin 768 → EReal := mix A.y0
/-- The mean gates of the second layer. -/
def mg (t : Fin 16) (e : Fin 4) : EReal := Ideal.div (∑ b : Fin 4096, (A.par 1 t).gate (A.v1 b t) e) c4096

end Args

end Mixer
-- ==== Proof.Entry0.lean ====
module

public import proofs.«01_k».proof.Proof.Token
public import proofs.«01_k».proof.Proof.Args
public import proofs.«01_k».proof.Proof.Gen.KernelIdeal.Frame.Fold0
public import Idealize.ShloMosaic.Lib.Claim
public import Idealize.ShloMosaic.Lib.KernelVsHost
public import Idealize.ShloMosaic.Lib.Pipeline.ValueKit
public import Idealize.ShloMosaic.Lib.Pointwise

@[expose] public section

/-!
The arrays that each call is given, from the arguments.
-/

set_option maxRecDepth 16384
noncomputable section

namespace Mixer

open Idealize.ShloMosaic Idealize.ShloMosaic.TcCoe
open Idealize.SL.Sem
open Cert.KernelIdeal Cert.KernelIdeal.Gen

/-- The padded router weights at an expert's lane. -/
theorem pad_wr (x : S2x16x768x4.Idx → EReal) (v : S_.Idx → EReal) (i : Fin 2) (t : Fin 16) (k : Fin 768) (e : Fin 4) :
    pad S2x16x768x128 ![0, 0, 0, 0] ![0, 0, 0, 124] ![0, 0, 0, 0] x v pads_S2x16x768x4_S2x16x768x128_000_000_000_01240 h_S_
      (ix4 i t k (lane e)) = x (ix4 i t k e) :=
  pad_apply_of_inside _ _ _ _ _ _ _ _ (ix4 i t k e) (fun a => by fin_cases a <;> simp [ix4])

/-- The padded router shifts at an expert's lane. -/
theorem pad_br (x : S2x16x4.Idx → EReal) (v : S_.Idx → EReal) (i : Fin 2) (t : Fin 16) (e : Fin 4) :
    pad S2x16x128 ![0, 0, 0] ![0, 0, 124] ![0, 0, 0] x v pads_S2x16x4_S2x16x128_000_000_01240 h_S_
      (ix3 i t (lane e)) = x (ix3 i t e) :=
  pad_apply_of_inside _ _ _ _ _ _ _ _ (ix3 i t e) (fun a => by fin_cases a <;> simp [ix3])

variable (m : (ℓ : Loc nD τ sig) → Buf (Elt Ideal) ℓ) (ρ : Dev nD → PrngReg) (c : Dev nD)

/-- The arguments that the kernel's program is given. -/
def argsK : Args where
  x b t d := (m ((c : Thread nD τ).loc main_arg0) : S4096x16x768.Idx → EReal) (ix3 b t d)
  g1 i k := (m ((c : Thread nD τ).loc main_arg1) : S2x768.Idx → EReal) (ix2 i k)
  c1 i k := (m ((c : Thread nD τ).loc main_arg2) : S2x768.Idx → EReal) (ix2 i k)
  wr i t k e := (m ((c : Thread nD τ).loc main_arg3) : S2x16x768x4.Idx → EReal) (ix4 i t k e)
  br i t e := (m ((c : Thread nD τ).loc main_arg4) : S2x16x4.Idx → EReal) (ix3 i t e)
  w1 i t e k f := (m ((c : Thread nD τ).loc main_arg5) : S2x16x4x768x1536.Idx → EReal) (ix5 i t e k f)
  s1 i t e f := (m ((c : Thread nD τ).loc main_arg6) : S2x16x4x1536.Idx → EReal) (ix4 i t e f)
  b1 i t e f := (m ((c : Thread nD τ).loc main_arg7) : S2x16x4x1536.Idx → EReal) (ix4 i t e f)
  w2 i t e f k := (m ((c : Thread nD τ).loc main_arg8) : S2x16x4x1536x768.Idx → EReal) (ix5 i t e f k)
  s2 i t e k := (m ((c : Thread nD τ).loc main_arg9) : S2x16x4x768.Idx → EReal) (ix4 i t e k)
  g2 i k := (m ((c : Thread nD τ).loc main_arg10) : S2x768.Idx → EReal) (ix2 i k)
  c2 i k := (m ((c : Thread nD τ).loc main_arg11) : S2x768.Idx → EReal) (ix2 i k)

/-! ## The first call -/

theorem in0_0 (t : Fin 16) (b : Fin 4096) (d : Fin 768) :
    (V5 m ρ c main_v0 : S16x4096x768.Idx → EReal) (ix3 t b d) = (argsK m c).x b t d := by
  show (W5 m ρ c (Proc.devRef .tc main_v0) : S16x4096x768.Idx → EReal) (ix3 t b d) = _
  rw [W5_of m ρ c _ (by decide), W4_of m ρ c _ (by decide), W3_of m ρ c _ (by decide), W2_of m ρ c _ (by decide)]
  dsimp only [W1]
  entry_read
  pointwise []
  rfl

theorem in0_1 (t : Fin 16) (b : Fin 4096) (d : Fin 768) :
    (V5 m ρ c main_v3 : S16x4096x768.Idx → EReal) (ix3 t b d) =
      (argsK m c).x b ⟨d.val / 48, by omega⟩ ⟨t.val * 48 + d.val % 48, by omega⟩ := by
  show (W5 m ρ c (Proc.devRef .tc main_v3) : S16x4096x768.Idx → EReal) (ix3 t b d) = _
  rw [W5_of m ρ c _ (by decide), W4_of m ρ c _ (by decide), W3_of m ρ c _ (by decide), W2_of m ρ c _ (by decide)]
  dsimp only [W1]
  entry_read
  pointwise []
  rfl

theorem in0_2 (i : Fin 2) (k : Fin 768) : (V5 m ρ c main_v4 : S2x1x768.Idx → EReal) (ix3 i 0 k) = (argsK m c).g1 i k := by
  show (W5 m ρ c (Proc.devRef .tc main_v4) : S2x1x768.Idx → EReal) (ix3 i 0 k) = _
  rw [W5_of m ρ c _ (by decide), W4_of m ρ c _ (by decide), W3_of m ρ c _ (by decide), W2_of m ρ c _ (by decide)]
  dsimp only [W1]
  entry_read
  pointwise []
  rfl

theorem in0_3 (i : Fin 2) (k : Fin 768) : (V5 m ρ c main_v5 : S2x1x768.Idx → EReal) (ix3 i 0 k) = (argsK m c).c1 i k := by
  show (W5 m ρ c (Proc.devRef .tc main_v5) : S2x1x768.Idx → EReal) (ix3 i 0 k) = _
  rw [W5_of m ρ c _ (by decide), W4_of m ρ c _ (by decide), W3_of m ρ c _ (by decide), W2_of m ρ c _ (by decide)]
  dsimp only [W1]
  entry_read
  pointwise []
  rfl

theorem in0_4 (i : Fin 2) (t : Fin 16) (k : Fin 768) (e : Fin 4) :
    (V5 m ρ c main_v6 : S2x16x768x128.Idx → EReal) (ix4 i t k (lane e)) = (argsK m c).wr i t k e := by
  show (W5 m ρ c (Proc.devRef .tc main_v6) : S2x16x768x128.Idx → EReal) (ix4 i t k (lane e)) = _
  rw [W5_of m ρ c _ (by decide), W4_of m ρ c _ (by decide), W3_of m ρ c _ (by decide)]
  dsimp only [W2]
  entry_read
  exact pad_wr _ _ i t k e

theorem in0_5 (i : Fin 2) (t : Fin 16) (e : Fin 4) :
    (V5 m ρ c main_v8 : S2x16x1x128.Idx → EReal) (ix4 i t 0 (lane e)) = (argsK m c).br i t e := by
  show (W5 m ρ c (Proc.devRef .tc main_v8) : S2x16x1x128.Idx → EReal) (ix4 i t 0 (lane e)) = _
  dsimp only [W5]
  entry_read
  pointwise []
  exact pad_br _ _ i t e

theorem in0_11 (i : Fin 2) (k : Fin 768) : (V5 m ρ c main_v9 : S2x1x768.Idx → EReal) (ix3 i 0 k) = (argsK m c).g2 i k := by
  show (W5 m ρ c (Proc.devRef .tc main_v9) : S2x1x768.Idx → EReal) (ix3 i 0 k) = _
  dsimp only [W5]
  entry_read
  pointwise []
  rfl

theorem in0_12 (i : Fin 2) (k : Fin 768) : (V5 m ρ c main_v10 : S2x1x768.Idx → EReal) (ix3 i 0 k) = (argsK m c).c2 i k := by
  show (W5 m ρ c (Proc.devRef .tc main_v10) : S2x1x768.Idx → EReal) (ix3 i 0 k) = _
  dsimp only [W5]
  entry_read
  pointwise []
  rfl

theorem in0_6 (i : Fin 2) (t : Fin 16) (e : Fin 4) (k : Fin 768) (f : Fin 1536) : (V5 m ρ c main_arg5 : S2x16x4x768x1536.Idx → EReal) (ix5 i t e k f) = (argsK m c).w1 i t e k f := by
  show (W5 m ρ c (Proc.devRef .tc main_arg5) : S2x16x4x768x1536.Idx → EReal) (ix5 i t e k f) = _
  rw [W5_args m ρ c main_arg5 (by decide)]
  rfl

theorem in0_7 (i : Fin 2) (t : Fin 16) (e : Fin 4) (f : Fin 1536) : (V5 m ρ c main_arg6 : S2x16x4x1536.Idx → EReal) (ix4 i t e f) = (argsK m c).s1 i t e f := by
  show (W5 m ρ c (Proc.devRef .tc main_arg6) : S2x16x4x1536.Idx → EReal) (ix4 i t e f) = _
  rw [W5_args m ρ c main_arg6 (by decide)]
  rfl

theorem in0_8 (i : Fin 2) (t : Fin 16) (e : Fin 4) (f : Fin 1536) : (V5 m ρ c main_arg7 : S2x16x4x1536.Idx → EReal) (ix4 i t e f) = (argsK m c).b1 i t e f := by
  show (W5 m ρ c (Proc.devRef .tc main_arg7) : S2x16x4x1536.Idx → EReal) (ix4 i t e f) = _
  rw [W5_args m ρ c main_arg7 (by decide)]
  rfl

theorem in0_9 (i : Fin 2) (t : Fin 16) (e : Fin 4) (f : Fin 1536) (k : Fin 768) : (V5 m ρ c main_arg8 : S2x16x4x1536x768.Idx → EReal) (ix5 i t e f k) = (argsK m c).w2 i t e f k := by
  show (W5 m ρ c (Proc.devRef .tc main_arg8) : S2x16x4x1536x768.Idx → EReal) (ix5 i t e f k) = _
  rw [W5_args m ρ c main_arg8 (by decide)]
  rfl

theorem in0_10 (i : Fin 2) (t : Fin 16) (e : Fin 4) (k : Fin 768) : (V5 m ρ c main_arg9 : S2x16x4x768.Idx → EReal) (ix4 i t e k) = (argsK m c).s2 i t e k := by
  show (W5 m ρ c (Proc.devRef .tc main_arg9) : S2x16x4x768.Idx → EReal) (ix4 i t e k) = _
  rw [W5_args m ρ c main_arg9 (by decide)]
  rfl
/-! ## The second call -/

variable (n : Fin 4096 → Fin 16 → Fin 768 → EReal)
  (hn : ∀ (t : Fin 16) (b : Fin 4096) (d : Fin 768), (W6 m ρ c (Proc.devRef .tc main_v11_0) : S16x4096x768.Idx → EReal) (ix3 t b d) = n b t d)

include hn in
theorem in1_0 (t : Fin 16) (b : Fin 4096) (d : Fin 768) :
    (V11 m ρ c main_v11_0 : S16x4096x768.Idx → EReal) (ix3 t b d) = n b t d := by
  show (W11 m ρ c (Proc.devRef .tc main_v11_0) : S16x4096x768.Idx → EReal) (ix3 t b d) = _
  rw [W11_of m ρ c _ (by decide), W10_of m ρ c _ (by decide), W9_of m ρ c _ (by decide), W8_of m ρ c _ (by decide), W7_of m ρ c _ (by decide)]
  exact hn t b d

include hn in
theorem in1_1 (t : Fin 16) (b : Fin 4096) (d : Fin 768) :
    (V11 m ρ c main_v14 : S16x4096x768.Idx → EReal) (ix3 t b d) =
      n b ⟨d.val / 48, by omega⟩ ⟨t.val * 48 + d.val % 48, by omega⟩ := by
  show (W11 m ρ c (Proc.devRef .tc main_v14) : S16x4096x768.Idx → EReal) (ix3 t b d) = _
  rw [W11_of m ρ c _ (by decide), W10_of m ρ c _ (by decide), W9_of m ρ c _ (by decide), W8_of m ρ c _ (by decide)]
  dsimp only [W7]
  entry_read
  pointwise []
  exact hn _ _ _

theorem in1_2 (i : Fin 2) (k : Fin 768) : (V11 m ρ c main_v15 : S2x1x768.Idx → EReal) (ix3 i 0 k) = (argsK m c).g1 i k := by
  show (W11 m ρ c (Proc.devRef .tc main_v15) : S2x1x768.Idx → EReal) (ix3 i 0 k) = _
  rw [W11_of m ρ c _ (by decide), W10_of m ρ c _ (by decide), W9_of m ρ c _ (by decide), W8_of m ρ c _ (by decide)]
  dsimp only [W7]
  entry_read
  pointwise []
  rfl

theorem in1_3 (i : Fin 2) (k : Fin 768) : (V11 m ρ c main_v16 : S2x1x768.Idx → EReal) (ix3 i 0 k) = (argsK m c).c1 i k := by
  show (W11 m ρ c (Proc.devRef .tc main_v16) : S2x1x768.Idx → EReal) (ix3 i 0 k) = _
  rw [W11_of m ρ c _ (by decide), W10_of m ρ c _ (by decide), W9_of m ρ c _ (by decide), W8_of m ρ c _ (by decide)]
  dsimp only [W7]
  entry_read
  pointwise []
  rfl

theorem in1_4 (i : Fin 2) (t : Fin 16) (k : Fin 768) (e : Fin 4) :
    (V11 m ρ c main_v17 : S2x16x768x128.Idx → EReal) (ix4 i t k (lane e)) = (argsK m c).wr i t k e := by
  show (W11 m ρ c (Proc.devRef .tc main_v17) : S2x16x768x128.Idx → EReal) (ix4 i t k (lane e)) = _
  rw [W11_of m ρ c _ (by decide), W10_of m ρ c _ (by decide), W9_of m ρ c _ (by decide)]
  dsimp only [W8]
  entry_read
  exact pad_wr _ _ i t k e

theorem in1_5 (i : Fin 2) (t : Fin 16) (e : Fin 4) :
    (V11 m ρ c main_v19 : S2x16x1x128.Idx → EReal) (ix4 i t 0 (lane e)) = (argsK m c).br i t e := by
  show (W11 m ρ c (Proc.devRef .tc main_v19) : S2x16x1x128.Idx → EReal) (ix4 i t 0 (lane e)) = _
  dsimp only [W11]
  entry_read
  pointwise []
  exact pad_br _ _ i t e

theorem in1_11 (i : Fin 2) (k : Fin 768) : (V11 m ρ c main_v20 : S2x1x768.Idx → EReal) (ix3 i 0 k) = (argsK m c).g2 i k := by
  show (W11 m ρ c (Proc.devRef .tc main_v20) : S2x1x768.Idx → EReal) (ix3 i 0 k) = _
  dsimp only [W11]
  entry_read
  pointwise []
  rfl

theorem in1_12 (i : Fin 2) (k : Fin 768) : (V11 m ρ c main_v21 : S2x1x768.Idx → EReal) (ix3 i 0 k) = (argsK m c).c2 i k := by
  show (W11 m ρ c (Proc.devRef .tc main_v21) : S2x1x768.Idx → EReal) (ix3 i 0 k) = _
  dsimp only [W11]
  entry_read
  pointwise []
  rfl

theorem in1_6 (i : Fin 2) (t : Fin 16) (e : Fin 4) (k : Fin 768) (f : Fin 1536) : (V11 m ρ c main_arg5 : S2x16x4x768x1536.Idx → EReal) (ix5 i t e k f) = (argsK m c).w1 i t e k f := by
  show (W11 m ρ c (Proc.devRef .tc main_arg5) : S2x16x4x768x1536.Idx → EReal) (ix5 i t e k f) = _
  rw [W11_args m ρ c main_arg5 (by decide)]
  rfl

theorem in1_7 (i : Fin 2) (t : Fin 16) (e : Fin 4) (f : Fin 1536) : (V11 m ρ c main_arg6 : S2x16x4x1536.Idx → EReal) (ix4 i t e f) = (argsK m c).s1 i t e f := by
  show (W11 m ρ c (Proc.devRef .tc main_arg6) : S2x16x4x1536.Idx → EReal) (ix4 i t e f) = _
  rw [W11_args m ρ c main_arg6 (by decide)]
  rfl

theorem in1_8 (i : Fin 2) (t : Fin 16) (e : Fin 4) (f : Fin 1536) : (V11 m ρ c main_arg7 : S2x16x4x1536.Idx → EReal) (ix4 i t e f) = (argsK m c).b1 i t e f := by
  show (W11 m ρ c (Proc.devRef .tc main_arg7) : S2x16x4x1536.Idx → EReal) (ix4 i t e f) = _
  rw [W11_args m ρ c main_arg7 (by decide)]
  rfl

theorem in1_9 (i : Fin 2) (t : Fin 16) (e : Fin 4) (f : Fin 1536) (k : Fin 768) : (V11 m ρ c main_arg8 : S2x16x4x1536x768.Idx → EReal) (ix5 i t e f k) = (argsK m c).w2 i t e f k := by
  show (W11 m ρ c (Proc.devRef .tc main_arg8) : S2x16x4x1536x768.Idx → EReal) (ix5 i t e f k) = _
  rw [W11_args m ρ c main_arg8 (by decide)]
  rfl

theorem in1_10 (i : Fin 2) (t : Fin 16) (e : Fin 4) (k : Fin 768) : (V11 m ρ c main_arg9 : S2x16x4x768.Idx → EReal) (ix4 i t e k) = (argsK m c).s2 i t e k := by
  show (W11 m ρ c (Proc.devRef .tc main_arg9) : S2x16x4x768.Idx → EReal) (ix4 i t e k) = _
  rw [W11_args m ρ c main_arg9 (by decide)]
  rfl

end Mixer
-- ==== Proof.Entry1.lean ====
module

public import proofs.«01_k».proof.Proof.Arrays0
public import proofs.«01_k».proof.Proof.Entry0

@[expose] public section

/-!
What each call works on, from the arguments.
-/

set_option maxRecDepth 16384
noncomputable section

namespace Mixer

open Idealize.ShloMosaic Idealize.ShloMosaic.TcCoe
open Idealize.SL.Sem
open Cert.KernelIdeal Cert.KernelIdeal.Gen

variable (m : (ℓ : Loc nD τ sig) → Buf (Elt Ideal) ℓ) (ρ : Dev nD → PrngReg) (c : Dev nD)

/-- The first call's parameters. -/
theorem pr0_args (t : Fin 16) : pr0 (V5 m ρ) c t = (argsK m c).par 0 t := by
  simp only [pr0, parA, Args.par, Par.mk.injEq]
  refine ⟨?_, ?_, ?_, ?_, ?_, ?_, ?_, ?_, ?_, ?_, ?_⟩
  · funext k; exact in0_2 m ρ c 0 k
  · funext k; exact in0_3 m ρ c 0 k
  · funext k e; exact in0_4 m ρ c 0 t k e
  · funext e; exact in0_5 m ρ c 0 t e
  · funext e k f; exact in0_6 m ρ c 0 t e k f
  · funext e f; exact in0_7 m ρ c 0 t e f
  · funext e f; exact in0_8 m ρ c 0 t e f
  · funext e f k; exact in0_9 m ρ c 0 t e f k
  · funext e k; exact in0_10 m ρ c 0 t e k
  · funext k; exact in0_11 m ρ c 0 k
  · funext k; exact in0_12 m ρ c 0 k

/-- The rows that enter the first call's norm. -/
theorem vr0_args (t : Fin 16) (b : Fin 4096) : vr0 (V5 m ρ) c t b = (argsK m c).v0 b t := by
  funext k
  exact congrArg₂ (· + ·) (in0_1 m ρ c t b k) (in0_0 m ρ c t b k)

/-- What the first call leaves for the second. -/
theorem x2_args (t : Fin 16) (b : Fin 4096) (d : Fin 768) :
    (W6 m ρ c (Proc.devRef .tc main_v11_0) : S16x4096x768.Idx → EReal) (ix3 t b d) = (argsK m c).y0 b t d := by
  refine (congrFun ((W6_arr m ρ c 13).trans (arr0_13 (V5 m ρ) c)) (ix3 t b d)).trans ?_
  show (pr0 (V5 m ρ) c t).x2 (vr0 (V5 m ρ) c t b) d = _
  rw [pr0_args, vr0_args]
  rfl

end Mixer
-- ==== Proof.KernelResults.lean ====
module

public import proofs.«01_k».proof.Proof.Arrays1
public import proofs.«01_k».proof.Proof.Entry1

@[expose] public section

/-!
What the kernel's program leaves in its results, from the arguments.
-/

set_option maxRecDepth 16384
noncomputable section

namespace Mixer

open Idealize.ShloMosaic Idealize.ShloMosaic.TcCoe
open Idealize.SL.Sem
open Cert.KernelIdeal Cert.KernelIdeal.Gen

variable (m : (ℓ : Loc nD τ sig) → Buf (Elt Ideal) ℓ) (ρ : Dev nD → PrngReg) (c : Dev nD)

/-- The second call's parameters. -/
theorem pr1_args (t : Fin 16) : pr1 (V11 m ρ) c t = (argsK m c).par 1 t := by
  simp only [pr1, parA, Args.par, Par.mk.injEq]
  refine ⟨?_, ?_, ?_, ?_, ?_, ?_, ?_, ?_, ?_, ?_, ?_⟩
  · funext k; exact in1_2 m ρ c 1 k
  · funext k; exact in1_3 m ρ c 1 k
  · funext k e; exact in1_4 m ρ c 1 t k e
  · funext e; exact in1_5 m ρ c 1 t e
  · funext e k f; exact in1_6 m ρ c 1 t e k f
  · funext e f; exact in1_7 m ρ c 1 t e f
  · funext e f; exact in1_8 m ρ c 1 t e f
  · funext e f k; exact in1_9 m ρ c 1 t e f k
  · funext e k; exact in1_10 m ρ c 1 t e k
  · funext k; exact in1_11 m ρ c 1 k
  · funext k; exact in1_12 m ρ c 1 k

/-- The rows that enter the second call's norm. -/
theorem vr1_args (t : Fin 16) (b : Fin 4096) : vr1 (V11 m ρ) c t b = (argsK m c).v1 b t := by
  funext k
  exact congrArg₂ (· + ·) (in1_1 m ρ c _ (x2_args m ρ c) t b k) (in1_0 m ρ c _ (x2_args m ρ c) t b k)

/-! ## The calls' arrays -/

theorem w_moe (t : Fin 16) (b : Fin 4096) (d : Fin 768) : (W12 m ρ c (Proc.devRef .tc main_v11_1) : S16x4096x768.Idx → EReal) (ix3 t b d) = ((argsK m c).par 0 t).moe ((argsK m c).v0 b t) d := by
  rw [W12_of m ρ c _ (by decide), W11_of m ρ c _ (by decide), W10_of m ρ c _ (by decide), W9_of m ρ c _ (by decide), W8_of m ρ c _ (by decide), W7_of m ρ c _ (by decide)]
  refine (congrFun ((W6_arr m ρ c 14).trans (arr0_14 (V5 m ρ) c)) (ix3 t b d)).trans ?_
  show (pr0 (V5 m ρ) c t).moe (vr0 (V5 m ρ) c t b) d = _
  simp only [pr0_args, vr0_args]

theorem w_ua (t : Fin 16) (b : Fin 4096) (e : Fin 4) : (W12 m ρ c (Proc.devRef .tc main_v11_2) : S16x4096x128.Idx → EReal) (ix3 t b (lane e)) = ((argsK m c).par 0 t).ua ((argsK m c).v0 b t) e := by
  rw [W12_of m ρ c _ (by decide), W11_of m ρ c _ (by decide), W10_of m ρ c _ (by decide), W9_of m ρ c _ (by decide), W8_of m ρ c _ (by decide), W7_of m ρ c _ (by decide)]
  refine (congrFun (W6_arr m ρ c 15) (ix3 t b (lane e))).trans ((arr0_15 (V5 m ρ) c b t e).trans ?_)
  simp only [pr0_args, vr0_args]

theorem w_xc (t : Fin 16) (b : Fin 4096) (d : Fin 768) : (W12 m ρ c (Proc.devRef .tc main_v11_3) : S16x4096x768.Idx → EReal) (ix3 t b d) = ((argsK m c).par 0 t).xc ((argsK m c).v0 b t) d := by
  rw [W12_of m ρ c _ (by decide), W11_of m ρ c _ (by decide), W10_of m ρ c _ (by decide), W9_of m ρ c _ (by decide), W8_of m ρ c _ (by decide), W7_of m ρ c _ (by decide)]
  refine (congrFun ((W6_arr m ρ c 16).trans (arr0_16 (V5 m ρ) c)) (ix3 t b d)).trans ?_
  show (pr0 (V5 m ρ) c t).xc (vr0 (V5 m ρ) c t b) d = _
  simp only [pr0_args, vr0_args]

theorem w_xs (t : Fin 16) (b : Fin 4096) : (W12 m ρ c (Proc.devRef .tc main_v11_4) : S16x4096x1.Idx → EReal) (ix3 t b 0) = ((argsK m c).par 0 t).xs ((argsK m c).v0 b t) := by
  rw [W12_of m ρ c _ (by decide), W11_of m ρ c _ (by decide), W10_of m ρ c _ (by decide), W9_of m ρ c _ (by decide), W8_of m ρ c _ (by decide), W7_of m ρ c _ (by decide)]
  refine (congrFun ((W6_arr m ρ c 17).trans (arr0_17 (V5 m ρ) c)) (ix3 t b 0)).trans ?_
  show (pr0 (V5 m ρ) c t).xs (vr0 (V5 m ρ) c t b) = _
  simp only [pr0_args, vr0_args]

theorem w_us (t : Fin 16) (b : Fin 4096) (e : Fin 4) : (W12 m ρ c (Proc.devRef .tc main_v11_5) : S16x4096x128.Idx → EReal) (ix3 t b (lane e)) = ((argsK m c).par 0 t).us ((argsK m c).v0 b t) e := by
  rw [W12_of m ρ c _ (by decide), W11_of m ρ c _ (by decide), W10_of m ρ c _ (by decide), W9_of m ρ c _ (by decide), W8_of m ρ c _ (by decide), W7_of m ρ c _ (by decide)]
  refine (congrFun (W6_arr m ρ c 18) (ix3 t b (lane e))).trans ((arr0_18 (V5 m ρ) c b t e).trans ?_)
  simp only [pr0_args, vr0_args]

theorem w_uc (t : Fin 16) (b : Fin 4096) (e : Fin 4) (f : Fin 1536) : (W12 m ρ c (Proc.devRef .tc main_v11_6) : S16x4x4096x1536.Idx → EReal) (ix4 t e b f) = ((argsK m c).par 0 t).uc ((argsK m c).v0 b t) e f := by
  rw [W12_of m ρ c _ (by decide), W11_of m ρ c _ (by decide), W10_of m ρ c _ (by decide), W9_of m ρ c _ (by decide), W8_of m ρ c _ (by decide), W7_of m ρ c _ (by decide)]
  refine (congrFun ((W6_arr m ρ c 19).trans (arr0_19 (V5 m ρ) c)) (ix4 t e b f)).trans ?_
  show (pr0 (V5 m ρ) c t).uc (vr0 (V5 m ρ) c t b) e f = _
  simp only [pr0_args, vr0_args]

theorem w_qc (t : Fin 16) (b : Fin 4096) (d : Fin 768) : (W12 m ρ c (Proc.devRef .tc main_v22_0) : S16x4096x768.Idx → EReal) (ix3 t b d) = ((argsK m c).par 1 t).qc ((argsK m c).v1 b t) d := by
  refine (congrFun ((W12_arr m ρ c 13).trans (arr1_13 (V11 m ρ) c)) (ix3 t b d)).trans ?_
  show (pr1 (V11 m ρ) c t).qc (vr1 (V11 m ρ) c t b) d = _
  simp only [pr1_args, vr1_args]

theorem w_qs (t : Fin 16) (b : Fin 4096) : (W12 m ρ c (Proc.devRef .tc main_v22_1) : S16x4096x1.Idx → EReal) (ix3 t b 0) = ((argsK m c).par 1 t).qs ((argsK m c).v1 b t) := by
  refine (congrFun ((W12_arr m ρ c 14).trans (arr1_14 (V11 m ρ) c)) (ix3 t b 0)).trans ?_
  show (pr1 (V11 m ρ) c t).qs (vr1 (V11 m ρ) c t b) = _
  simp only [pr1_args, vr1_args]

theorem w_g (t : Fin 16) (b : Fin 4096) (e : Fin 4) : (W12 m ρ c (Proc.devRef .tc main_v22_2) : S16x4096x128.Idx → EReal) (ix3 t b (lane e)) = ((argsK m c).par 1 t).gate ((argsK m c).v1 b t) e := by
  refine (congrFun (W12_arr m ρ c 15) (ix3 t b (lane e))).trans ((arr1_15 (V11 m ρ) c b t e).trans ?_)
  simp only [pr1_args, vr1_args]

theorem w_gs (t : Fin 16) (e : Fin 4) : (W12 m ρ c (Proc.devRef .tc main_v22_3) : S16x1x128.Idx → EReal) (ix3 t 0 (lane e)) = ∑ b : Fin 4096, ((argsK m c).par 1 t).gate ((argsK m c).v1 b t) e := by
  refine (congrFun (W12_arr m ρ c 16) (ix3 t 0 (lane e))).trans ((arr1_16 (V11 m ρ) c t e).trans ?_)
  simp only [pr1_args, vr1_args]

/-! ## The results -/

theorem r0 (b : Fin 4096) (t : Fin 16) (d : Fin 768) : (W13 m ρ c (Proc.devRef .tc main_v23) : S4096x16x768.Idx → EReal) (ix3 b t d) = ((argsK m c).par 1 t).qc ((argsK m c).v1 b t) d := by
  dsimp only [W13]
  entry_read
  pointwise []
  exact w_qc m ρ c t b d

theorem r1 (b : Fin 4096) (t : Fin 16) : (W13 m ρ c (Proc.devRef .tc main_v25) : S4096x16.Idx → EReal) (ix2 b t) = ((argsK m c).par 1 t).qs ((argsK m c).v1 b t) := by
  dsimp only [W13]
  entry_read
  pointwise []
  exact w_qs m ρ c t b

theorem r2 (b : Fin 4096) (t : Fin 16) (e : Fin 4) : (W13 m ρ c (Proc.devRef .tc main_v27) : S4096x16x4.Idx → EReal) (ix3 b t e) = ((argsK m c).par 1 t).gate ((argsK m c).v1 b t) e := by
  dsimp only [W13]
  entry_read
  pointwise []
  exact w_g m ρ c t b e

theorem r3 (t : Fin 16) (e : Fin 4) : (W13 m ρ c (Proc.devRef .tc main_v31) : S16x4.Idx → EReal) (ix2 t e) = (argsK m c).mg t e := by
  dsimp only [W13]
  entry_read
  pointwise []
  exact congrArg (fun x => Ideal.div x c4096) (w_gs m ρ c t e)

theorem r4 (b : Fin 4096) (t : Fin 16) (d : Fin 768) : (W13 m ρ c (Proc.devRef .tc main_v32) : S4096x16x768.Idx → EReal) (ix3 b t d) = ((argsK m c).par 0 t).moe ((argsK m c).v0 b t) d := by
  dsimp only [W13]
  entry_read
  pointwise []
  exact w_moe m ρ c t b d

theorem r5 (b : Fin 4096) (t : Fin 16) (e : Fin 4) : (W13 m ρ c (Proc.devRef .tc main_v34) : S4096x16x4.Idx → EReal) (ix3 b t e) = ((argsK m c).par 0 t).ua ((argsK m c).v0 b t) e := by
  dsimp only [W13]
  entry_read
  pointwise []
  exact w_ua m ρ c t b e

theorem r6 (b : Fin 4096) (t : Fin 16) (d : Fin 768) : (W13 m ρ c (Proc.devRef .tc main_v35) : S4096x16x768.Idx → EReal) (ix3 b t d) = ((argsK m c).par 0 t).xc ((argsK m c).v0 b t) d := by
  dsimp only [W13]
  entry_read
  pointwise []
  exact w_xc m ρ c t b d

theorem r7 (b : Fin 4096) (t : Fin 16) : (W13 m ρ c (Proc.devRef .tc main_v37) : S4096x16.Idx → EReal) (ix2 b t) = ((argsK m c).par 0 t).xs ((argsK m c).v0 b t) := by
  dsimp only [W13]
  entry_read
  pointwise []
  exact w_xs m ρ c t b

theorem r8 (b : Fin 4096) (t : Fin 16) (e : Fin 4) (f : Fin 1536) : (W13 m ρ c (Proc.devRef .tc main_v38) : S4096x16x4x1536.Idx → EReal) (ix4 b t e f) = ((argsK m c).par 0 t).uc ((argsK m c).v0 b t) e f := by
  dsimp only [W13]
  entry_read
  pointwise []
  exact w_uc m ρ c t b e f

theorem r9 (b : Fin 4096) (t : Fin 16) (e : Fin 4) : (W13 m ρ c (Proc.devRef .tc main_v40) : S4096x16x4.Idx → EReal) (ix3 b t e) = ((argsK m c).par 0 t).us ((argsK m c).v0 b t) e := by
  dsimp only [W13]
  entry_read
  pointwise []
  exact w_us m ρ c t b e

end Mixer
-- ==== Proof.KernelRun.lean ====
module

public import proofs.«01_k».proof.Proof.Gen.KernelIdeal.Frame

@[expose] public section

/-!
The kernel's run, with every array of its program at the end.
-/

set_option maxRecDepth 16384

noncomputable section

namespace Mixer

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

variable (m : (ℓ : Loc nD τ sig) → Buf (Elt F) ℓ) (ρ : Dev nD → PrngReg)

-- the launch's implicit arguments are found by unification, which unfolds definitions in types
set_option backward.isDefEq.respectTransparency.types false in
/-- Every run ends, nothing faulting, with every array that outlives the calls at the value that the fold of the
    program's steps gives it. -/
theorem run_all : θ_run defs (onTc (τ := τ) (main (F := F))) ⟨m, fun _ => 0, ρ⟩ (fun r => ∀ c : Dev nD,
      ∀ b ∈ Pipeline.ucRefs τ sig, r.2.mem ((c : Thread nD τ).1, b) = W13 m ρ c b) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp (MT nD τ sig Unit (Elt F) ℕ (UR sig nD τ) ℕ))
            ⊢ BI.own (emb₁ (initOf (Pipeline.cells cfgs cellOf_inj) (Pipeline.launchToks cfgs cellOf_inj))) from .rfl)
        iexact Hu
      iapply (show (BI.emp : sProp (MT nD τ sig Unit (Elt F) ℕ (UR sig nD τ) ℕ)) ⊢ bigSep Finset.univ (fun _ : Dev nD => (BI.emp : sProp (MT nD τ sig Unit (Elt F) ℕ (UR sig nD τ) ℕ))) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W13 m ρ c b)
    (hfin := fun c s' => by
      iintro ⟨⟨Hh, -⟩, HSI⟩
      unfold StableHlo.held
      imodintro
      iapply (pointsTo_read_all (Pipeline.ucRefs τ sig) (fun b => (((c : Thread nD τ)).1, b)) (W13 m ρ c) s')
      isplitl [Hh] <;> iassumption)
    (hQ := fun s h _ => h)

/-- The kernel's results and arguments at the end of a run. -/
theorem run_results : θ_run defs (onTc (τ := τ) (main (F := F))) ⟨m, fun _ => 0, ρ⟩ (fun r => ∀ c : Dev nD,
      r.2.mem ((c.tc : Thread nD τ).loc main_v23) = W13 m ρ c (Proc.devRef .tc main_v23)
      ∧ r.2.mem ((c.tc : Thread nD τ).loc main_v25) = W13 m ρ c (Proc.devRef .tc main_v25)
      ∧ r.2.mem ((c.tc : Thread nD τ).loc main_v27) = W13 m ρ c (Proc.devRef .tc main_v27)
      ∧ r.2.mem ((c.tc : Thread nD τ).loc main_v31) = W13 m ρ c (Proc.devRef .tc main_v31)
      ∧ r.2.mem ((c.tc : Thread nD τ).loc main_v32) = W13 m ρ c (Proc.devRef .tc main_v32)
      ∧ r.2.mem ((c.tc : Thread nD τ).loc main_v34) = W13 m ρ c (Proc.devRef .tc main_v34)
      ∧ r.2.mem ((c.tc : Thread nD τ).loc main_v35) = W13 m ρ c (Proc.devRef .tc main_v35)
      ∧ r.2.mem ((c.tc : Thread nD τ).loc main_v37) = W13 m ρ c (Proc.devRef .tc main_v37)
      ∧ r.2.mem ((c.tc : Thread nD τ).loc main_v38) = W13 m ρ c (Proc.devRef .tc main_v38)
      ∧ r.2.mem ((c.tc : Thread nD τ).loc main_v40) = W13 m ρ c (Proc.devRef .tc main_v40)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun _ h c =>
    ⟨h c _ (mem_uc main_v23 (by decide)),
     h c _ (mem_uc main_v25 (by decide)),
     h c _ (mem_uc main_v27 (by decide)),
     h c _ (mem_uc main_v31 (by decide)),
     h c _ (mem_uc main_v32 (by decide)),
     h c _ (mem_uc main_v34 (by decide)),
     h c _ (mem_uc main_v35 (by decide)),
     h c _ (mem_uc main_v37 (by decide)),
     h c _ (mem_uc main_v38 (by decide)),
     h c _ (mem_uc main_v40 (by decide)),
     (h c _ (mem_uc main_arg0 (by decide))).trans (W13_main_arg0 m ρ c),
     (h c _ (mem_uc main_arg1 (by decide))).trans (W13_main_arg1 m ρ c),
     (h c _ (mem_uc main_arg2 (by decide))).trans (W13_main_arg2 m ρ c),
     (h c _ (mem_uc main_arg3 (by decide))).trans (W13_main_arg3 m ρ c),
     (h c _ (mem_uc main_arg4 (by decide))).trans (W13_main_arg4 m ρ c),
     (h c _ (mem_uc main_arg5 (by decide))).trans (W13_main_arg5 m ρ c),
     (h c _ (mem_uc main_arg6 (by decide))).trans (W13_main_arg6 m ρ c),
     (h c _ (mem_uc main_arg7 (by decide))).trans (W13_main_arg7 m ρ c),
     (h c _ (mem_uc main_arg8 (by decide))).trans (W13_main_arg8 m ρ c),
     (h c _ (mem_uc main_arg9 (by decide))).trans (W13_main_arg9 m ρ c),
     (h c _ (mem_uc main_arg10 (by decide))).trans (W13_main_arg10 m ρ c),
     (h c _ (mem_uc main_arg11 (by decide))).trans (W13_main_arg11 m ρ c)⟩) (run_all m ρ)

end Mixer
-- ==== Proof.WholeVecs.lean ====
module

public import proofs.«01_k».proof.Proof.Args
public import proofs.«01_k».proof.Proof.Gen.ReferenceIdeal.Skeleton
public import Idealize.ShloMosaic.Lib.Claim
public import Idealize.ShloMosaic.Lib.Pointwise

@[expose] public section

/-!
The reference's steps on whole arrays, one function for each, as the reference spells them; and what each
computes at one position.
-/

set_option maxRecDepth 16384
set_option synthInstance.maxSize 4096
noncomputable section

namespace Mixer.Whole

open Idealize.ShloMosaic
open Cert.ReferenceIdeal Cert.ReferenceIdeal.Gen

section Defs

variable {F : FTy → Type} [FloatOps F] [Named F]

/-- Every position with the rows of all tokens mixed in. -/
def mixV (x : FVec F S4096x16x768 .f32) : FVec F S4096x16x768 .f32 :=
  addf (shapeCast S4096x16x768 (transpose S4096x16x16x48 [0, 2, 1, 3] (shapeCast S4096x16x16x48 x shapeCasts_S4096x16x768_S4096x16x16x48)
    transposes_S4096x16x16x48_p0_2_1_3_S4096x16x16x48) shapeCasts_S4096x16x16x48_S4096x16x768) x

/-- The mean at each position. -/
def meanV (v : FVec F S4096x16x768 .f32) : FVec F S4096x16x1 .f32 :=
  divf (shapeCast S4096x16x1 (multiReduction .add [2] S4096x16 v 0x00000000#32 reduces_S4096x16x768_S4096x16 (.inl rfl) rfl) shapeCasts_S4096x16_S4096x16x1)
    (broadcast S4096x16x1 (Scalar.ofBits .f32 0x44400000#32))

/-- Each position less its mean. -/
def cenV (v : FVec F S4096x16x768 .f32) : FVec F S4096x16x768 .f32 :=
  subf v (broadcastTo S4096x16x768 (meanV v) broadcasts_S4096x16x1_S4096x16x768)

/-- The layer norm at each position, less its shift. -/
def nmV (v : FVec F S4096x16x768 .f32) (g : FVec F S768 .f32) : FVec F S4096x16x768 .f32 :=
  mulf
    (divf (cenV v)
      (broadcastTo S4096x16x768
        (sqrt (addf (meanV (mulf (cenV v) (cenV v))) (broadcast S4096x16x1 (Scalar.ofBits .f32 0x358637BD#32))))
        broadcasts_S4096x16x1_S4096x16x768))
    (broadcastTo S4096x16x768 (shapeCast S1x1x768 g shapeCasts_S768_S1x1x768) broadcasts_S1x1x768_S4096x16x768)

/-- The layer norm at each position. -/
def lnV (v : FVec F S4096x16x768 .f32) (g b : FVec F S768 .f32) : FVec F S4096x16x768 .f32 :=
  addf (nmV v g) (broadcastTo S4096x16x768 (shapeCast S1x1x768 b shapeCasts_S768_S1x1x768) broadcasts_S1x1x768_S4096x16x768)

/-- The largest absolute value at each position. -/
def amV (v : FVec F S4096x16x768 .f32) : FVec F S4096x16 .f32 :=
  multiReduction .maximumf [2] S4096x16 (absf v) 0xFF800000#32 reduces_S4096x16x768_S4096x16 (.inl rfl) rfl

/-- The largest absolute value at each expert. -/
def amhV (v : FVec F S4096x16x4x1536 .f32) : FVec F S4096x16x4 .f32 :=
  multiReduction .maximumf [3] S4096x16x4 (absf v) 0xFF800000#32 reduces_S4096x16x4x1536_S4096x16x4 (.inl rfl) rfl

/-- The scale at each position. -/
def scV (a : FVec F S4096x16 .f32) : FVec F S4096x16 .f32 :=
  select (cmpf .oeq a (broadcast S4096x16 (Scalar.ofBits .f32 0x00000000#32)))
    (broadcast S4096x16 (Scalar.ofBits .f32 0x3F800000#32))
    (divf a (broadcast S4096x16 (Scalar.ofBits .f32 0x43E00000#32)))

/-- The scale at each expert. -/
def schV (a : FVec F S4096x16x4 .f32) : FVec F S4096x16x4 .f32 :=
  select (cmpf .oeq a (broadcast S4096x16x4 (Scalar.ofBits .f32 0x00000000#32)))
    (broadcast S4096x16x4 (Scalar.ofBits .f32 0x3F800000#32))
    (divf a (broadcast S4096x16x4 (Scalar.ofBits .f32 0x43E00000#32)))

/-- The codes at each position. -/
def cdV (v : FVec F S4096x16x768 .f32) (s : FVec F S4096x16 .f32) : FVec F S4096x16x768 .fp8e4m3 :=
  truncf .fp8e4m3
    (minimumf (broadcast S4096x16x768 (Scalar.ofBits .f32 0x43E00000#32))
      (maximumf (broadcast S4096x16x768 (Scalar.ofBits .f32 0xC3E00000#32))
        (divf v (broadcastTo S4096x16x768 (shapeCast S4096x16x1 s shapeCasts_S4096x16_S4096x16x1) broadcasts_S4096x16x1_S4096x16x768)))) bitsLt_fp8e4m3_f32

/-- The codes at each expert. -/
def cdhV (v : FVec F S4096x16x4x1536 .f32) (s : FVec F S4096x16x4 .f32) : FVec F S4096x16x4x1536 .fp8e4m3 :=
  truncf .fp8e4m3
    (minimumf (broadcast S4096x16x4x1536 (Scalar.ofBits .f32 0x43E00000#32))
      (maximumf (broadcast S4096x16x4x1536 (Scalar.ofBits .f32 0xC3E00000#32))
        (divf v (broadcastTo S4096x16x4x1536 (shapeCast S4096x16x4x1 s shapeCasts_S4096x16x4_S4096x16x4x1) broadcasts_S4096x16x4x1_S4096x16x4x1536)))) bitsLt_fp8e4m3_f32

/-- The router's products at each position. -/
def rtV (v : FVec F S4096x16x768 .f32) (w : FVec F S16x768x4 .f32) : FVec F S4096x16x4 .f32 :=
  transpose S4096x16x4 [2, 0, 1] (matmul dot_S16x768x4_S4096x16x768_S16x4x4096_1_2_2_0_0_1 (some .fp32) w v (constant S16x4x4096 .f32 0x00000000#32))
    transposes_S16x4x4096_p2_0_1_S4096x16x4

/-- The gates from the router's products. -/
def gtV (p : FVec F S4096x16x4 .f32) (b : FVec F S16x4 .f32) : FVec F S4096x16x4 .f32 :=
  maximumf (addf p (broadcastTo S4096x16x4 (shapeCast S1x16x4 b shapeCasts_S16x4_S1x16x4) broadcasts_S1x16x4_S4096x16x4))
    (broadcast S4096x16x4 (Scalar.ofBits .f32 0x00000000#32))

/-- The hidden layer of each expert before its activation. -/
def hdV (c : FVec F S4096x16x768 .fp8e4m3) (s : FVec F S4096x16 .f32) (w : FVec F S16x4x768x1536 .fp8e4m3)
    (ws wb : FVec F S16x4x1536 .f32) : FVec F S4096x16x4x1536 .f32 :=
  addf
    (mulf
      (mulf
        (transpose S4096x16x4x1536 [3, 0, 1, 2]
          (matmul dot_S16x4x768x1536_S4096x16x768_S16x4x1536x4096_2_2_13_0_0_1 none w c (constant S16x4x1536x4096 .f32 0x00000000#32))
          transposes_S16x4x1536x4096_p3_0_1_2_S4096x16x4x1536)
        (broadcastTo S4096x16x4x1536 (shapeCast S4096x16x1x1 s shapeCasts_S4096x16_S4096x16x1x1) broadcasts_S4096x16x1x1_S4096x16x4x1536))
      (broadcastTo S4096x16x4x1536 (shapeCast S1x16x4x1536 ws shapeCasts_S16x4x1536_S1x16x4x1536) broadcasts_S1x16x4x1536_S4096x16x4x1536))
    (broadcastTo S4096x16x4x1536 (shapeCast S1x16x4x1536 wb shapeCasts_S16x4x1536_S1x16x4x1536) broadcasts_S1x16x4x1536_S4096x16x4x1536)

/-- The gated activation of each expert. -/
def acV (h : FVec F S4096x16x4x1536 .f32) (g : FVec F S4096x16x4 .f32) : FVec F S4096x16x4x1536 .f32 :=
  mulf
    (mulf (mulf (broadcast S4096x16x4x1536 (Scalar.ofBits .f32 0x3F000000#32)) h)
      (addf (broadcast S4096x16x4x1536 (Scalar.ofBits .f32 0x3F800000#32))
        (erf (divf h (broadcast S4096x16x4x1536 (Named.named κ "sqrt_2" 0x3FB504F3#32))))))
    (broadcastTo S4096x16x4x1536 (shapeCast S4096x16x4x1 g shapeCasts_S4096x16x4_S4096x16x4x1) broadcasts_S4096x16x4x1_S4096x16x4x1536)

/-- The output of each expert before its weights' scale. -/
def ysV (c : FVec F S4096x16x4x1536 .fp8e4m3) (s : FVec F S4096x16x4 .f32) (w : FVec F S16x4x1536x768 .fp8e4m3) : FVec F S4096x16x4x768 .f32 :=
  mulf
    (transpose S4096x16x4x768 [3, 0, 1, 2]
      (matmul dot_S16x4x1536x768_S4096x16x4x1536_S16x4x768x4096_2_3_3_0_01_12 none w c (constant S16x4x768x4096 .f32 0x00000000#32))
      transposes_S16x4x768x4096_p3_0_1_2_S4096x16x4x768)
    (broadcastTo S4096x16x4x768 (shapeCast S4096x16x4x1 s shapeCasts_S4096x16x4_S4096x16x4x1) broadcasts_S4096x16x4x1_S4096x16x4x768)

/-- The experts' outputs together. -/
def moeV (y : FVec F S4096x16x4x768 .f32) (ws : FVec F S16x4x768 .f32) : FVec F S4096x16x768 .f32 :=
  multiReduction .add [2] S4096x16x768
    (mulf y (broadcastTo S4096x16x4x768 (shapeCast S1x16x4x768 ws shapeCasts_S16x4x768_S1x16x4x768) broadcasts_S1x16x4x768_S4096x16x4x768))
    0x00000000#32 reduces_S4096x16x4x768_S4096x16x768 (.inl rfl) rfl

end Defs

/-! ## What each step computes at one position -/

section Rows

theorem named_sqrt2 : Named.named (F := Ideal) (φ := .f32) κ "sqrt_2" 0x3FB504F3#32 = sqrt2 :=
  IdealRules.named_const.ideal_named_scalar _ _ _ _ rfl

variable (b : Fin 4096) (t : Fin 16)

theorem mixV_at (x : FVec Ideal S4096x16x768 .f32) (d : Fin 768) :
    mixV x (ix3 b t d) = mix (fun b t d => x (ix3 b t d)) b t d := by
  pointwise [mixV]; rfl

theorem meanV_at (v : FVec Ideal S4096x16x768 .f32) : meanV v (ix3 b t 0) = mean fun k => v (ix3 b t k) := by
  pointwise [meanV]; rfl

theorem cenV_at (v : FVec Ideal S4096x16x768 .f32) (d : Fin 768) :
    cenV v (ix3 b t d) = cen (fun k => v (ix3 b t k)) d := by
  pointwise [cenV]; rw [meanV_at]; rfl

theorem lnV_at (v : FVec Ideal S4096x16x768 .f32) (g c : FVec Ideal S768 .f32) (d : Fin 768) :
    lnV v g c (ix3 b t d) = ln (fun k => v (ix3 b t k)) (fun k => g (ix1 k)) (fun k => c (ix1 k)) d := by
  have h : meanV (mulf (cenV v) (cenV v)) (ix3 b t 0) = var fun k => v (ix3 b t k) := by
    rw [meanV_at]; unfold var mean
    pointwise []
    simp only [cenV_at]
  pointwise [lnV, nmV]
  rw [h, cenV_at]
  rfl

theorem amV_at (v : FVec Ideal S4096x16x768 .f32) : amV v (ix2 b t) = amax fun k => v (ix3 b t k) := by
  pointwise [amV]; rfl

theorem amhV_at (v : FVec Ideal S4096x16x4x1536 .f32) (e : Fin 4) : amhV v (ix3 b t e) = amax fun f => v (ix4 b t e f) := by
  pointwise [amhV]; rfl

theorem scV_at (a : FVec Ideal S4096x16 .f32) : scV a (ix2 b t) = scale (a (ix2 b t)) := by
  pointwise [scV]; rfl

theorem schV_at (a : FVec Ideal S4096x16x4 .f32) (e : Fin 4) : schV a (ix3 b t e) = scale (a (ix3 b t e)) := by
  pointwise [schV]; rfl

theorem cdV_at (v : FVec Ideal S4096x16x768 .f32) (s : FVec Ideal S4096x16 .f32) (d : Fin 768) :
    cdV v s (ix3 b t d) = quant (v (ix3 b t d)) (s (ix2 b t)) := by
  pointwise [cdV]; rfl

theorem cdhV_at (v : FVec Ideal S4096x16x4x1536 .f32) (s : FVec Ideal S4096x16x4 .f32) (e : Fin 4) (f : Fin 1536) :
    cdhV v s (ix4 b t e f) = quant (v (ix4 b t e f)) (s (ix3 b t e)) := by
  pointwise [cdhV]; rfl

theorem rtV_at (v : FVec Ideal S4096x16x768 .f32) (w : FVec Ideal S16x768x4 .f32) (e : Fin 4) :
    rtV v w (ix3 b t e) = ∑ k : Fin 768, v (ix3 b t k) * w (ix3 t k e) := by
  pointwise [rtV]
  exact Finset.sum_congr rfl fun k _ => mul_comm _ _

theorem gtV_at (p : FVec Ideal S4096x16x4 .f32) (c : FVec Ideal S16x4 .f32) (e : Fin 4) :
    gtV p c (ix3 b t e) = max (p (ix3 b t e) + c (ix2 t e)) 0 := by
  pointwise [gtV]

theorem hdV_at (c : FVec Ideal S4096x16x768 .fp8e4m3) (s : FVec Ideal S4096x16 .f32) (w : FVec Ideal S16x4x768x1536 .fp8e4m3)
    (ws wb : FVec Ideal S16x4x1536 .f32) (e : Fin 4) (f : Fin 1536) :
    hdV c s w ws wb (ix4 b t e f) = hidOf (fun k => c (ix3 b t k)) (s (ix2 b t)) (fun k f => w (ix4 t e k f))
      (fun f => ws (ix3 t e f)) (fun f => wb (ix3 t e f)) f := by
  unfold hidOf
  rw [Finset.sum_congr rfl fun (k : Fin 768) _ => mul_comm (c (ix3 b t k) : EReal) (w (ix4 t e k f))]
  pointwise [hdV]

theorem acV_at (h : FVec Ideal S4096x16x4x1536 .f32) (g : FVec Ideal S4096x16x4 .f32) (e : Fin 4) (f : Fin 1536) :
    acV h g (ix4 b t e f) = act (h (ix4 b t e f)) * g (ix3 b t e) := by
  unfold act
  rw [← named_sqrt2]
  pointwise [acV]

theorem ysV_at (c : FVec Ideal S4096x16x4x1536 .fp8e4m3) (s : FVec Ideal S4096x16x4 .f32) (w : FVec Ideal S16x4x1536x768 .fp8e4m3)
    (e : Fin 4) (d : Fin 768) :
    ysV c s w (ix4 b t e d) = (∑ f : Fin 1536, c (ix4 b t e f) * w (ix4 t e f d)) * s (ix3 b t e) := by
  rw [Finset.sum_congr rfl fun (f : Fin 1536) _ => mul_comm (c (ix4 b t e f) : EReal) (w (ix4 t e f d))]
  pointwise [ysV]

theorem moeV_at (y : FVec Ideal S4096x16x4x768 .f32) (ws : FVec Ideal S16x4x768 .f32) (d : Fin 768) :
    moeV y ws (ix3 b t d) = ∑ e : Fin 4, y (ix4 b t e d) * ws (ix3 t e d) := by
  pointwise [moeV]

end Rows

end Mixer.Whole
-- ==== Proof.WholeLayer.lean ====
module

public import proofs.«01_k».proof.Proof.WholeVecs

@[expose] public section

/-!
One layer of the reference, on whole arrays; and what it computes at one position.
-/

set_option maxRecDepth 16384
set_option synthInstance.maxSize 4096
noncomputable section

namespace Mixer.Whole

open Idealize.ShloMosaic
open Cert.ReferenceIdeal Cert.ReferenceIdeal.Gen

/-- What one layer works on. -/
structure Lay (F : FTy → Type) where
  /-- What enters the first norm. -/
  v : FVec F S4096x16x768 .f32
  /-- The first norm's gain. -/
  g1 : FVec F S768 .f32
  /-- The first norm's shift. -/
  c1 : FVec F S768 .f32
  /-- The router's weights. -/
  wr : FVec F S16x768x4 .f32
  /-- The router's shift. -/
  br : FVec F S16x4 .f32
  /-- The experts' first weights, as codes. -/
  w1 : FVec F S16x4x768x1536 .fp8e4m3
  /-- Their scales. -/
  s1 : FVec F S16x4x1536 .f32
  /-- The experts' first shifts. -/
  b1 : FVec F S16x4x1536 .f32
  /-- The experts' second weights, as codes. -/
  w2 : FVec F S16x4x1536x768 .fp8e4m3
  /-- Their scales. -/
  s2 : FVec F S16x4x768 .f32
  /-- The second norm's gain. -/
  g2 : FVec F S768 .f32
  /-- The second norm's shift. -/
  c2 : FVec F S768 .f32

namespace Lay

section Defs

variable {F : FTy → Type} [FloatOps F] [Named F] (L : Lay F)

/-- The first norm. -/
def X1 : FVec F S4096x16x768 .f32 := lnV L.v L.g1 L.c1
/-- Its scales. -/
def XS : FVec F S4096x16 .f32 := scV (amV L.X1)
/-- Its codes. -/
def XC : FVec F S4096x16x768 .fp8e4m3 := cdV L.X1 L.XS
/-- The router's products. -/
def RT : FVec F S4096x16x4 .f32 := rtV L.X1 L.wr
/-- The gates. -/
def G : FVec F S4096x16x4 .f32 := gtV L.RT L.br
/-- The gated hidden layer. -/
def U : FVec F S4096x16x4x1536 .f32 := acV (hdV L.XC L.XS L.w1 L.s1 L.b1) L.G
/-- Its largest absolute values. -/
def UA : FVec F S4096x16x4 .f32 := amhV L.U
/-- Its scales. -/
def US : FVec F S4096x16x4 .f32 := schV L.UA
/-- Its codes. -/
def UC : FVec F S4096x16x4x1536 .fp8e4m3 := cdhV L.U L.US
/-- The experts' outputs before their weights' scales. -/
def Y : FVec F S4096x16x4x768 .f32 := ysV L.UC L.US L.w2
/-- The experts' outputs together. -/
def M : FVec F S4096x16x768 .f32 := moeV L.Y L.s2
/-- The second norm, less its shift. -/
def N2 : FVec F S4096x16x768 .f32 := nmV (addf L.X1 L.M) L.g2
/-- The second norm. -/
def X2 : FVec F S4096x16x768 .f32 := lnV (addf L.X1 L.M) L.g2 L.c2
/-- Its scales. -/
def QS : FVec F S4096x16 .f32 := scV (amV L.X2)
/-- Its codes. -/
def QC : FVec F S4096x16x768 .fp8e4m3 := cdV L.X2 L.QS
/-- The mean gates. -/
def MG : FVec F S16x4 .f32 :=
  divf (multiReduction .add [0] S16x4 L.G 0x00000000#32 reduces_S4096x16x4_S16x4 (.inl rfl) rfl)
    (broadcast S16x4 (Scalar.ofBits .f32 0x45800000#32))

end Defs

variable (L : Lay Ideal) (b : Fin 4096) (t : Fin 16)

/-- What enters the first norm at a position. -/
def row (k : Fin 768) : EReal := L.v (ix3 b t k)

/-- A token's parameters. -/
def par : Par where
  g1 k := L.g1 (ix1 k)
  c1 k := L.c1 (ix1 k)
  wr k e := L.wr (ix3 t k e)
  br e := L.br (ix2 t e)
  w1 e k f := L.w1 (ix4 t e k f)
  s1 e f := L.s1 (ix3 t e f)
  b1 e f := L.b1 (ix3 t e f)
  w2 e f k := L.w2 (ix4 t e f k)
  s2 e k := L.s2 (ix3 t e k)
  g2 k := L.g2 (ix1 k)
  c2 k := L.c2 (ix1 k)

theorem X1_at (d : Fin 768) : L.X1 (ix3 b t d) = (L.par t).x1 (L.row b t) d := by
  unfold X1; rw [lnV_at]; rfl

theorem AM_at : amV L.X1 (ix2 b t) = amax ((L.par t).x1 (L.row b t)) := by
  rw [amV_at]; simp only [X1_at]

theorem XS_at : L.XS (ix2 b t) = (L.par t).xs (L.row b t) := by
  unfold XS; rw [scV_at, AM_at]; rfl

theorem XC_at (d : Fin 768) : L.XC (ix3 b t d) = (L.par t).xc (L.row b t) d := by
  unfold XC; rw [cdV_at, XS_at, X1_at]; rfl

theorem G_at (e : Fin 4) : L.G (ix3 b t e) = (L.par t).gate (L.row b t) e := by
  unfold G RT; rw [gtV_at, rtV_at]; simp only [X1_at]; rfl

theorem U_at (e : Fin 4) (f : Fin 1536) : L.U (ix4 b t e f) = (L.par t).u (L.row b t) e f := by
  unfold U; rw [acV_at, hdV_at, XS_at, G_at]; simp only [XC_at]; rfl

theorem UA_at (e : Fin 4) : L.UA (ix3 b t e) = (L.par t).ua (L.row b t) e := by
  unfold UA; rw [amhV_at]; simp only [U_at]; rfl

theorem US_at (e : Fin 4) : L.US (ix3 b t e) = (L.par t).us (L.row b t) e := by
  unfold US; rw [schV_at, UA_at]; rfl

theorem UC_at (e : Fin 4) (f : Fin 1536) : L.UC (ix4 b t e f) = (L.par t).uc (L.row b t) e f := by
  unfold UC; rw [cdhV_at, U_at, US_at]; rfl

theorem M_at (d : Fin 768) : L.M (ix3 b t d) = (L.par t).moe (L.row b t) d := by
  unfold M Y; rw [moeV_at]; simp only [ysV_at, UC_at, US_at]; rfl

theorem X2_at (d : Fin 768) : L.X2 (ix3 b t d) = (L.par t).x2 (L.row b t) d := by
  unfold X2; rw [lnV_at]
  have h : ∀ k, addf L.X1 L.M (ix3 b t k) = (L.par t).x1 (L.row b t) k + (L.par t).moe (L.row b t) k := fun k => by
    rw [← X1_at, ← M_at]
    pointwise []
  simp only [h]; rfl

theorem QA_at : amV L.X2 (ix2 b t) = amax ((L.par t).x2 (L.row b t)) := by
  rw [amV_at]; simp only [X2_at]

theorem QS_at : L.QS (ix2 b t) = (L.par t).qs (L.row b t) := by
  unfold QS; rw [scV_at, QA_at]; rfl

theorem QC_at (d : Fin 768) : L.QC (ix3 b t d) = (L.par t).qc (L.row b t) d := by
  unfold QC; rw [cdV_at, X2_at, QS_at]; rfl

theorem MG_at (e : Fin 4) : L.MG (ix2 t e) = Ideal.div (∑ b : Fin 4096, (L.par t).gate (L.row b t) e) c4096 := by
  pointwise [MG]
  simp only [G_at]

end Lay

/-! ## The reference's named values -/

section Pays

variable {F : FTy → Type} [FloatOps F] [Named F]

theorem q13 (v1 : FVec F S4096x16x768 .f32) (v3 v5 : FVec F S768 .f32) : k0_pay13 v1 v3 v5 = lnV (mixV v1) v3 v5 := rfl
theorem q14 (v1 : FVec F S4096x16x768 .f32) (v3 v5 : FVec F S768 .f32) : k0_pay14 v1 v3 v5 = scV (amV (lnV (mixV v1) v3 v5)) := rfl
theorem q15 (v1 : FVec F S4096x16x768 .f32) (v3 v5 : FVec F S768 .f32) :
    k0_pay15 v1 v3 v5 = cdV (lnV (mixV v1) v3 v5) (scV (amV (lnV (mixV v1) v3 v5))) := rfl
theorem q16 (v1 : FVec F S4096x16x768 .f32) (v3 v5 : FVec F S768 .f32) (v7 : FVec F S16x768x4 .f32) :
    k0_pay16 v1 v3 v5 v7 = rtV (lnV (mixV v1) v3 v5) v7 := rfl

section Experts

variable (v9 : FVec F S16x4 .f32) (v11 : FVec F S16x4x768x1536 .fp8e4m3) (v13 v15 : FVec F S16x4x1536 .f32)
  (v57 : FVec F S4096x16 .f32) (v65 : FVec F S4096x16x768 .fp8e4m3) (v67 : FVec F S4096x16x4 .f32)

theorem q17 : k0_pay17 v9 v11 v13 v15 v57 v65 v67 = acV (hdV v65 v57 v11 v13 v15) (gtV v67 v9) := rfl
theorem q18 : k0_pay18 v9 v11 v13 v15 v57 v65 v67 = amhV (k0_pay17 v9 v11 v13 v15 v57 v65 v67) := rfl
theorem q19 : k0_pay19 v9 v11 v13 v15 v57 v65 v67 = schV (k0_pay18 v9 v11 v13 v15 v57 v65 v67) := rfl
theorem q20 : k0_pay20 v9 v11 v13 v15 v57 v65 v67 =
    cdhV (k0_pay17 v9 v11 v13 v15 v57 v65 v67) (k0_pay19 v9 v11 v13 v15 v57 v65 v67) := rfl
theorem q21 (v17 : FVec F S16x4x1536x768 .fp8e4m3) : k0_pay21 v9 v11 v13 v15 v17 v57 v65 v67 =
    ysV (k0_pay20 v9 v11 v13 v15 v57 v65 v67) (k0_pay19 v9 v11 v13 v15 v57 v65 v67) v17 := rfl

end Experts

theorem q22 (v19 : FVec F S16x4x768 .f32) (v115 : FVec F S4096x16x4x768 .f32) : k0_pay22 v19 v115 = moeV v115 v19 := rfl
theorem q23 (v19 : FVec F S16x4x768 .f32) (v21 v23 : FVec F S768 .f32) (v49 : FVec F S4096x16x768 .f32) (v115 : FVec F S4096x16x4x768 .f32) :
    k0_pay23 v19 v21 v23 v49 v115 = lnV (addf v49 (moeV v115 v19)) v21 v23 := rfl
theorem q35 (v142 : FVec F S4096x16x768 .f32) (v144 : FVec F S768 .f32) : k0_pay35 v142 v144 = nmV (mixV v142) v144 := rfl
theorem q36 (v : FVec F S4096x16x768 .f32) (g b : FVec F S768 .f32) : k0_pay36 b (nmV v g) = lnV v g b := rfl
theorem q37 (v146 : FVec F S768 .f32) (v148 : FVec F S16x768x4 .f32) (v150 : FVec F S16x4 .f32) (v187 : FVec F S4096x16x768 .f32) :
    k0_pay37 v146 v148 v150 v187 = gtV (rtV (k0_pay36 v146 v187) v148) v150 := rfl
theorem q38 (v146 : FVec F S768 .f32) (v148 : FVec F S16x768x4 .f32) (v150 : FVec F S16x4 .f32) (v152 : FVec F S16x4x768x1536 .fp8e4m3)
    (v154 v156 : FVec F S16x4x1536 .f32) (v187 : FVec F S4096x16x768 .f32) :
    k0_pay38 v146 v148 v150 v152 v154 v156 v187 =
      acV (hdV (cdV (k0_pay36 v146 v187) (scV (amV (k0_pay36 v146 v187)))) (scV (amV (k0_pay36 v146 v187))) v152 v154 v156)
        (k0_pay37 v146 v148 v150 v187) := rfl
theorem q39 (v158 : FVec F S16x4x1536x768 .fp8e4m3) (v160 : FVec F S16x4x768 .f32) (v162 : FVec F S768 .f32)
    (v190 : FVec F S4096x16x768 .f32) (v235 : FVec F S4096x16x4x1536 .f32) :
    k0_pay39 v158 v160 v162 v190 v235 =
      nmV (addf v190 (moeV (ysV (cdhV v235 (schV (amhV v235))) (schV (amhV v235)) v158) v160)) v162 := rfl
theorem q41 (v : FVec F S4096x16x768 .f32) (g b : FVec F S768 .f32) : k0_pay41 (nmV v g) (k0_pay40 b) = lnV v g b := rfl
theorem q43 (v280 v282 : FVec F S4096x16x768 .f32) : k0_pay43 v280 v282 = scV (amV (k0_pay41 v280 v282)) := rfl
theorem q44 (v280 v282 : FVec F S4096x16x768 .f32) : k0_pay44 v280 v282 = cdV (k0_pay41 v280 v282) (k0_pay43 v280 v282) := rfl

end Pays

end Mixer.Whole
-- ==== Proof.WholePieces.lean ====
module

public import proofs.«01_k».proof.Proof.WholeLayer
public import proofs.«01_k».proof.Proof.Gen.ReferenceIdeal.Frame
public import Idealize.ShloMosaic.Lib.KernelVsHost
public import Idealize.ShloMosaic.Lib.Pipeline.ValueKit

@[expose] public section

/-!
The reference's two layers, from the arrays it is given, and what it stores of them.
-/

set_option maxRecDepth 16384
set_option synthInstance.maxSize 4096
noncomputable section

namespace Mixer.Whole

open Idealize.ShloMosaic Idealize.ShloMosaic.TcCoe
open Idealize.SL.Sem
open Cert.ReferenceIdeal Cert.ReferenceIdeal.Gen

section Pieces

variable {F : FTy → Type} [FloatOps F] [Named F]
variable (x0 : Vec F S4096x16x768 .bf16)
  (x1 : Vec F S2x768 .f32)
  (x2 : Vec F S2x768 .f32)
  (x3 : Vec F S2x16x768x4 .f32)
  (x4 : Vec F S2x16x4 .f32)
  (x5 : Vec F S2x16x4x768x1536 .fp8e4m3)
  (x6 : Vec F S2x16x4x1536 .f32)
  (x7 : Vec F S2x16x4x1536 .f32)
  (x8 : Vec F S2x16x4x1536x768 .fp8e4m3)
  (x9 : Vec F S2x16x4x768 .f32)
  (x10 : Vec F S2x768 .f32)
  (x11 : Vec F S2x768 .f32)

/-- The first layer. -/
def lay0 : Lay F where
  v := mixV (k0_pay1 (View.ld x0 r0_0))
  g1 := k0_pay2 (View.ld x1 r0_1)
  c1 := k0_pay3 (View.ld x2 r0_1)
  wr := k0_pay4 (View.ld x3 r0_2)
  br := k0_pay5 (View.ld x4 r0_3)
  w1 := k0_pay6 (View.ld x5 r0_4)
  s1 := k0_pay7 (View.ld x6 r0_5)
  b1 := k0_pay8 (View.ld x7 r0_5)
  w2 := k0_pay9 (View.ld x8 r0_6)
  s2 := k0_pay10 (View.ld x9 r0_7)
  g2 := k0_pay11 (View.ld x10 r0_1)
  c2 := k0_pay12 (View.ld x11 r0_1)

/-- The second layer. -/
def lay1 : Lay F where
  v := mixV (lay0 x0 x1 x2 x3 x4 x5 x6 x7 x8 x9 x10 x11).X2
  g1 := k0_pay24 (View.ld x1 r0_8)
  c1 := k0_pay25 (View.ld x2 r0_8)
  wr := k0_pay26 (View.ld x3 r0_9)
  br := k0_pay27 (View.ld x4 r0_10)
  w1 := k0_pay28 (View.ld x5 r0_11)
  s1 := k0_pay29 (View.ld x6 r0_12)
  b1 := k0_pay30 (View.ld x7 r0_12)
  w2 := k0_pay31 (View.ld x8 r0_13)
  s2 := k0_pay32 (View.ld x9 r0_14)
  g2 := k0_pay33 (View.ld x10 r0_8)
  c2 := k0_pay34 (View.ld x11 r0_8)

theorem p53 : k0_pay53 x0 x1 x2 x3 x4 x5 x6 x7 x8 x9 x10 x11 = (lay0 x0 x1 x2 x3 x4 x5 x6 x7 x8 x9 x10 x11).XS := q14 _ _ _
theorem p54 : k0_pay54 x0 x1 x2 x3 x4 x5 x6 x7 x8 x9 x10 x11 = (lay0 x0 x1 x2 x3 x4 x5 x6 x7 x8 x9 x10 x11).XC := q15 _ _ _
theorem p55 : k0_pay55 x0 x1 x2 x3 x4 x5 x6 x7 x8 x9 x10 x11 = (lay0 x0 x1 x2 x3 x4 x5 x6 x7 x8 x9 x10 x11).RT := q16 _ _ _ _
theorem e17 : k0_pay17 (k0_pay48 x0 x1 x2 x3 x4 x5 x6 x7 x8 x9 x10 x11) (k0_pay49 x0 x1 x2 x3 x4 x5 x6 x7 x8 x9 x10 x11) (k0_pay50 x0 x1 x2 x3 x4 x5 x6 x7 x8 x9 x10 x11) (k0_pay51 x0 x1 x2 x3 x4 x5 x6 x7 x8 x9 x10 x11) (k0_pay53 x0 x1 x2 x3 x4 x5 x6 x7 x8 x9 x10 x11) (k0_pay54 x0 x1 x2 x3 x4 x5 x6 x7 x8 x9 x10 x11) (k0_pay55 x0 x1 x2 x3 x4 x5 x6 x7 x8 x9 x10 x11) = (lay0 x0 x1 x2 x3 x4 x5 x6 x7 x8 x9 x10 x11).U := by
  rw [p53, p54, p55]
  exact q17 _ _ _ _ _ _ _
theorem e18 : k0_pay18 (k0_pay48 x0 x1 x2 x3 x4 x5 x6 x7 x8 x9 x10 x11) (k0_pay49 x0 x1 x2 x3 x4 x5 x6 x7 x8 x9 x10 x11) (k0_pay50 x0 x1 x2 x3 x4 x5 x6 x7 x8 x9 x10 x11) (k0_pay51 x0 x1 x2 x3 x4 x5 x6 x7 x8 x9 x10 x11) (k0_pay53 x0 x1 x2 x3 x4 x5 x6 x7 x8 x9 x10 x11) (k0_pay54 x0 x1 x2 x3 x4 x5 x6 x7 x8 x9 x10 x11) (k0_pay55 x0 x1 x2 x3 x4 x5 x6 x7 x8 x9 x10 x11) = (lay0 x0 x1 x2 x3 x4 x5 x6 x7 x8 x9 x10 x11).UA := by
  rw [q18, e17]
  rfl
theorem e19 : k0_pay19 (k0_pay48 x0 x1 x2 x3 x4 x5 x6 x7 x8 x9 x10 x11) (k0_pay49 x0 x1 x2 x3 x4 x5 x6 x7 x8 x9 x10 x11) (k0_pay50 x0 x1 x2 x3 x4 x5 x6 x7 x8 x9 x10 x11) (k0_pay51 x0 x1 x2 x3 x4 x5 x6 x7 x8 x9 x10 x11) (k0_pay53 x0 x1 x2 x3 x4 x5 x6 x7 x8 x9 x10 x11) (k0_pay54 x0 x1 x2 x3 x4 x5 x6 x7 x8 x9 x10 x11) (k0_pay55 x0 x1 x2 x3 x4 x5 x6 x7 x8 x9 x10 x11) = (lay0 x0 x1 x2 x3 x4 x5 x6 x7 x8 x9 x10 x11).US := by
  rw [q19, e18]
  rfl
theorem e20 : k0_pay20 (k0_pay48 x0 x1 x2 x3 x4 x5 x6 x7 x8 x9 x10 x11) (k0_pay49 x0 x1 x2 x3 x4 x5 x6 x7 x8 x9 x10 x11) (k0_pay50 x0 x1 x2 x3 x4 x5 x6 x7 x8 x9 x10 x11) (k0_pay51 x0 x1 x2 x3 x4 x5 x6 x7 x8 x9 x10 x11) (k0_pay53 x0 x1 x2 x3 x4 x5 x6 x7 x8 x9 x10 x11) (k0_pay54 x0 x1 x2 x3 x4 x5 x6 x7 x8 x9 x10 x11) (k0_pay55 x0 x1 x2 x3 x4 x5 x6 x7 x8 x9 x10 x11) = (lay0 x0 x1 x2 x3 x4 x5 x6 x7 x8 x9 x10 x11).UC := by
  rw [q20, e17, e19]
  rfl
theorem p56 : k0_pay56 x0 x1 x2 x3 x4 x5 x6 x7 x8 x9 x10 x11 = (lay0 x0 x1 x2 x3 x4 x5 x6 x7 x8 x9 x10 x11).Y := by
  unfold k0_pay56
  rw [q21, e19, e20]
  rfl
theorem e22 : k0_pay22 (k0_pay52 x0 x1 x2 x3 x4 x5 x6 x7 x8 x9 x10 x11) (k0_pay56 x0 x1 x2 x3 x4 x5 x6 x7 x8 x9 x10 x11) = (lay0 x0 x1 x2 x3 x4 x5 x6 x7 x8 x9 x10 x11).M := by
  rw [p56, q22]
  rfl
theorem e13 : k0_pay13 (k0_pay45 x0 x1 x2 x3 x4 x5 x6 x7 x8 x9 x10 x11) (k0_pay46 x0 x1 x2 x3 x4 x5 x6 x7 x8 x9 x10 x11) (k0_pay47 x0 x1 x2 x3 x4 x5 x6 x7 x8 x9 x10 x11) = (lay0 x0 x1 x2 x3 x4 x5 x6 x7 x8 x9 x10 x11).X1 := q13 _ _ _
theorem e23 : k0_pay23 (k0_pay52 x0 x1 x2 x3 x4 x5 x6 x7 x8 x9 x10 x11) (k0_pay11 (View.ld x10 r0_1)) (k0_pay12 (View.ld x11 r0_1)) (k0_pay13 (k0_pay45 x0 x1 x2 x3 x4 x5 x6 x7 x8 x9 x10 x11) (k0_pay46 x0 x1 x2 x3 x4 x5 x6 x7 x8 x9 x10 x11) (k0_pay47 x0 x1 x2 x3 x4 x5 x6 x7 x8 x9 x10 x11)) (k0_pay56 x0 x1 x2 x3 x4 x5 x6 x7 x8 x9 x10 x11) = (lay0 x0 x1 x2 x3 x4 x5 x6 x7 x8 x9 x10 x11).X2 := by
  rw [e13, p56, q23]
  rfl
theorem p60 : k0_pay60 x0 x1 x2 x3 x4 x5 x6 x7 x8 x9 x10 x11 = nmV (lay1 x0 x1 x2 x3 x4 x5 x6 x7 x8 x9 x10 x11).v (lay1 x0 x1 x2 x3 x4 x5 x6 x7 x8 x9 x10 x11).g1 := by
  unfold k0_pay60
  rw [e23, q35]
  rfl
theorem e36 : k0_pay36 (k0_pay57 x0 x1 x2 x3 x4 x5 x6 x7 x8 x9 x10 x11) (k0_pay60 x0 x1 x2 x3 x4 x5 x6 x7 x8 x9 x10 x11) = (lay1 x0 x1 x2 x3 x4 x5 x6 x7 x8 x9 x10 x11).X1 := by
  rw [p60]
  exact q36 _ _ _
theorem p61 : k0_pay61 x0 x1 x2 x3 x4 x5 x6 x7 x8 x9 x10 x11 = (lay1 x0 x1 x2 x3 x4 x5 x6 x7 x8 x9 x10 x11).G := by
  unfold k0_pay61
  rw [q37, e36]
  rfl
theorem e38 : k0_pay38 (k0_pay57 x0 x1 x2 x3 x4 x5 x6 x7 x8 x9 x10 x11) (k0_pay58 x0 x1 x2 x3 x4 x5 x6 x7 x8 x9 x10 x11) (k0_pay59 x0 x1 x2 x3 x4 x5 x6 x7 x8 x9 x10 x11) (k0_pay28 (View.ld x5 r0_11)) (k0_pay29 (View.ld x6 r0_12)) (k0_pay30 (View.ld x7 r0_12)) (k0_pay60 x0 x1 x2 x3 x4 x5 x6 x7 x8 x9 x10 x11) = (lay1 x0 x1 x2 x3 x4 x5 x6 x7 x8 x9 x10 x11).U := by
  rw [q38, e36, show k0_pay37 (k0_pay57 x0 x1 x2 x3 x4 x5 x6 x7 x8 x9 x10 x11) (k0_pay58 x0 x1 x2 x3 x4 x5 x6 x7 x8 x9 x10 x11) (k0_pay59 x0 x1 x2 x3 x4 x5 x6 x7 x8 x9 x10 x11) (k0_pay60 x0 x1 x2 x3 x4 x5 x6 x7 x8 x9 x10 x11) = _ from p61 x0 x1 x2 x3 x4 x5 x6 x7 x8 x9 x10 x11]
  rfl
theorem p62 : k0_pay62 x0 x1 x2 x3 x4 x5 x6 x7 x8 x9 x10 x11 = (lay1 x0 x1 x2 x3 x4 x5 x6 x7 x8 x9 x10 x11).N2 := by
  unfold k0_pay62
  rw [e36, e38, q39]
  rfl
theorem e41 : k0_pay41 (k0_pay62 x0 x1 x2 x3 x4 x5 x6 x7 x8 x9 x10 x11) (k0_pay63 x0 x1 x2 x3 x4 x5 x6 x7 x8 x9 x10 x11) = (lay1 x0 x1 x2 x3 x4 x5 x6 x7 x8 x9 x10 x11).X2 := by
  rw [p62]
  exact q41 _ _ _
theorem e43 : k0_pay43 (k0_pay62 x0 x1 x2 x3 x4 x5 x6 x7 x8 x9 x10 x11) (k0_pay63 x0 x1 x2 x3 x4 x5 x6 x7 x8 x9 x10 x11) = (lay1 x0 x1 x2 x3 x4 x5 x6 x7 x8 x9 x10 x11).QS := by
  rw [q43, e41]
  rfl
theorem e44 : k0_pay44 (k0_pay62 x0 x1 x2 x3 x4 x5 x6 x7 x8 x9 x10 x11) (k0_pay63 x0 x1 x2 x3 x4 x5 x6 x7 x8 x9 x10 x11) = (lay1 x0 x1 x2 x3 x4 x5 x6 x7 x8 x9 x10 x11).QC := by
  rw [q44, e41, e43]
  rfl
theorem e42 : k0_pay42 (k0_pay61 x0 x1 x2 x3 x4 x5 x6 x7 x8 x9 x10 x11) = (lay1 x0 x1 x2 x3 x4 x5 x6 x7 x8 x9 x10 x11).MG := by
  rw [p61]
  rfl

/-! ## What each result's buffer holds -/

theorem o12 : out0_12 x0 x1 x2 x3 x4 x5 x6 x7 x8 x9 x10 x11 = (lay1 x0 x1 x2 x3 x4 x5 x6 x7 x8 x9 x10 x11).QC := by
  unfold out0_12
  rw [e44]
  frame_out
theorem o13 : out0_13 x0 x1 x2 x3 x4 x5 x6 x7 x8 x9 x10 x11 = (lay1 x0 x1 x2 x3 x4 x5 x6 x7 x8 x9 x10 x11).QS := by
  unfold out0_13
  rw [e43]
  frame_out
theorem o14 : out0_14 x0 x1 x2 x3 x4 x5 x6 x7 x8 x9 x10 x11 = (lay1 x0 x1 x2 x3 x4 x5 x6 x7 x8 x9 x10 x11).G := by
  unfold out0_14
  rw [p61]
  frame_out
theorem o15 : out0_15 x0 x1 x2 x3 x4 x5 x6 x7 x8 x9 x10 x11 = (lay1 x0 x1 x2 x3 x4 x5 x6 x7 x8 x9 x10 x11).MG := by
  unfold out0_15
  rw [e42]
  frame_out
theorem o16 : out0_16 x0 x1 x2 x3 x4 x5 x6 x7 x8 x9 x10 x11 = (lay0 x0 x1 x2 x3 x4 x5 x6 x7 x8 x9 x10 x11).M := by
  unfold out0_16
  rw [e22]
  frame_out
theorem o17 : out0_17 x0 x1 x2 x3 x4 x5 x6 x7 x8 x9 x10 x11 = (lay0 x0 x1 x2 x3 x4 x5 x6 x7 x8 x9 x10 x11).UA := by
  unfold out0_17
  rw [e18]
  frame_out
theorem o18 : out0_18 x0 x1 x2 x3 x4 x5 x6 x7 x8 x9 x10 x11 = (lay0 x0 x1 x2 x3 x4 x5 x6 x7 x8 x9 x10 x11).XC := by
  unfold out0_18
  rw [p54]
  frame_out
theorem o19 : out0_19 x0 x1 x2 x3 x4 x5 x6 x7 x8 x9 x10 x11 = (lay0 x0 x1 x2 x3 x4 x5 x6 x7 x8 x9 x10 x11).XS := by
  unfold out0_19
  rw [p53]
  frame_out
theorem o20 : out0_20 x0 x1 x2 x3 x4 x5 x6 x7 x8 x9 x10 x11 = (lay0 x0 x1 x2 x3 x4 x5 x6 x7 x8 x9 x10 x11).UC := by
  unfold out0_20
  rw [e20]
  frame_out
theorem o21 : out0_21 x0 x1 x2 x3 x4 x5 x6 x7 x8 x9 x10 x11 = (lay0 x0 x1 x2 x3 x4 x5 x6 x7 x8 x9 x10 x11).US := by
  unfold out0_21
  rw [e19]
  frame_out

end Pieces

end Mixer.Whole
-- ==== Proof.WholeArgs.lean ====
module

public import proofs.«01_k».proof.Proof.WholePieces
public import proofs.«01_k».proof.Proof.Gen.ReferenceIdeal.Frame
public import Idealize.ShloMosaic.Lib.KernelVsHost
public import Idealize.ShloMosaic.Lib.Pipeline.ValueKit

@[expose] public section

/-!
The reference's results, from its arguments.
-/

set_option maxRecDepth 16384
set_option synthInstance.maxSize 4096
noncomputable section

namespace Mixer.Whole

open Idealize.ShloMosaic Idealize.ShloMosaic.TcCoe
open Idealize.SL.Sem
open Cert.ReferenceIdeal Cert.ReferenceIdeal.Gen

section Params

variable (x0 : Vec Ideal S4096x16x768 .bf16)
  (x1 : Vec Ideal S2x768 .f32)
  (x2 : Vec Ideal S2x768 .f32)
  (x3 : Vec Ideal S2x16x768x4 .f32)
  (x4 : Vec Ideal S2x16x4 .f32)
  (x5 : Vec Ideal S2x16x4x768x1536 .fp8e4m3)
  (x6 : Vec Ideal S2x16x4x1536 .f32)
  (x7 : Vec Ideal S2x16x4x1536 .f32)
  (x8 : Vec Ideal S2x16x4x1536x768 .fp8e4m3)
  (x9 : Vec Ideal S2x16x4x768 .f32)
  (x10 : Vec Ideal S2x768 .f32)
  (x11 : Vec Ideal S2x768 .f32)

/-- The arguments, from the arrays. -/
def argsOf : Args where
  x b t d := x0 (ix3 b t d)
  g1 i k := x1 (ix2 i k)
  c1 i k := x2 (ix2 i k)
  wr i t k e := x3 (ix4 i t k e)
  br i t e := x4 (ix3 i t e)
  w1 i t e k f := x5 (ix5 i t e k f)
  s1 i t e f := x6 (ix4 i t e f)
  b1 i t e f := x7 (ix4 i t e f)
  w2 i t e f k := x8 (ix5 i t e f k)
  s2 i t e k := x9 (ix4 i t e k)
  g2 i k := x10 (ix2 i k)
  c2 i k := x11 (ix2 i k)

theorem lay0_g1 (k : Fin 768) :
    (lay0 x0 x1 x2 x3 x4 x5 x6 x7 x8 x9 x10 x11).g1 (ix1 k) = (argsOf x0 x1 x2 x3 x4 x5 x6 x7 x8 x9 x10 x11).g1 0 k := by
  pointwise [lay0, k0_pay2, argsOf]

theorem lay0_c1 (k : Fin 768) :
    (lay0 x0 x1 x2 x3 x4 x5 x6 x7 x8 x9 x10 x11).c1 (ix1 k) = (argsOf x0 x1 x2 x3 x4 x5 x6 x7 x8 x9 x10 x11).c1 0 k := by
  pointwise [lay0, k0_pay3, argsOf]

theorem lay0_wr (t : Fin 16) (k : Fin 768) (e : Fin 4) :
    (lay0 x0 x1 x2 x3 x4 x5 x6 x7 x8 x9 x10 x11).wr (ix3 t k e) = (argsOf x0 x1 x2 x3 x4 x5 x6 x7 x8 x9 x10 x11).wr 0 t k e := by
  pointwise [lay0, k0_pay4, argsOf]

theorem lay0_br (t : Fin 16) (e : Fin 4) :
    (lay0 x0 x1 x2 x3 x4 x5 x6 x7 x8 x9 x10 x11).br (ix2 t e) = (argsOf x0 x1 x2 x3 x4 x5 x6 x7 x8 x9 x10 x11).br 0 t e := by
  pointwise [lay0, k0_pay5, argsOf]

theorem lay0_w1 (t : Fin 16) (e : Fin 4) (k : Fin 768) (f : Fin 1536) :
    (lay0 x0 x1 x2 x3 x4 x5 x6 x7 x8 x9 x10 x11).w1 (ix4 t e k f) = (argsOf x0 x1 x2 x3 x4 x5 x6 x7 x8 x9 x10 x11).w1 0 t e k f := by
  pointwise [lay0, k0_pay6, argsOf]

theorem lay0_s1 (t : Fin 16) (e : Fin 4) (f : Fin 1536) :
    (lay0 x0 x1 x2 x3 x4 x5 x6 x7 x8 x9 x10 x11).s1 (ix3 t e f) = (argsOf x0 x1 x2 x3 x4 x5 x6 x7 x8 x9 x10 x11).s1 0 t e f := by
  pointwise [lay0, k0_pay7, argsOf]

theorem lay0_b1 (t : Fin 16) (e : Fin 4) (f : Fin 1536) :
    (lay0 x0 x1 x2 x3 x4 x5 x6 x7 x8 x9 x10 x11).b1 (ix3 t e f) = (argsOf x0 x1 x2 x3 x4 x5 x6 x7 x8 x9 x10 x11).b1 0 t e f := by
  pointwise [lay0, k0_pay8, argsOf]

theorem lay0_w2 (t : Fin 16) (e : Fin 4) (f : Fin 1536) (k : Fin 768) :
    (lay0 x0 x1 x2 x3 x4 x5 x6 x7 x8 x9 x10 x11).w2 (ix4 t e f k) = (argsOf x0 x1 x2 x3 x4 x5 x6 x7 x8 x9 x10 x11).w2 0 t e f k := by
  pointwise [lay0, k0_pay9, argsOf]

theorem lay0_s2 (t : Fin 16) (e : Fin 4) (k : Fin 768) :
    (lay0 x0 x1 x2 x3 x4 x5 x6 x7 x8 x9 x10 x11).s2 (ix3 t e k) = (argsOf x0 x1 x2 x3 x4 x5 x6 x7 x8 x9 x10 x11).s2 0 t e k := by
  pointwise [lay0, k0_pay10, argsOf]

theorem lay0_g2 (k : Fin 768) :
    (lay0 x0 x1 x2 x3 x4 x5 x6 x7 x8 x9 x10 x11).g2 (ix1 k) = (argsOf x0 x1 x2 x3 x4 x5 x6 x7 x8 x9 x10 x11).g2 0 k := by
  pointwise [lay0, k0_pay11, argsOf]

theorem lay0_c2 (k : Fin 768) :
    (lay0 x0 x1 x2 x3 x4 x5 x6 x7 x8 x9 x10 x11).c2 (ix1 k) = (argsOf x0 x1 x2 x3 x4 x5 x6 x7 x8 x9 x10 x11).c2 0 k := by
  pointwise [lay0, k0_pay12, argsOf]

theorem lay1_g1 (k : Fin 768) :
    (lay1 x0 x1 x2 x3 x4 x5 x6 x7 x8 x9 x10 x11).g1 (ix1 k) = (argsOf x0 x1 x2 x3 x4 x5 x6 x7 x8 x9 x10 x11).g1 1 k := by
  pointwise [lay1, k0_pay24, argsOf]

theorem lay1_c1 (k : Fin 768) :
    (lay1 x0 x1 x2 x3 x4 x5 x6 x7 x8 x9 x10 x11).c1 (ix1 k) = (argsOf x0 x1 x2 x3 x4 x5 x6 x7 x8 x9 x10 x11).c1 1 k := by
  pointwise [lay1, k0_pay25, argsOf]

theorem lay1_wr (t : Fin 16) (k : Fin 768) (e : Fin 4) :
    (lay1 x0 x1 x2 x3 x4 x5 x6 x7 x8 x9 x10 x11).wr (ix3 t k e) = (argsOf x0 x1 x2 x3 x4 x5 x6 x7 x8 x9 x10 x11).wr 1 t k e := by
  pointwise [lay1, k0_pay26, argsOf]

theorem lay1_br (t : Fin 16) (e : Fin 4) :
    (lay1 x0 x1 x2 x3 x4 x5 x6 x7 x8 x9 x10 x11).br (ix2 t e) = (argsOf x0 x1 x2 x3 x4 x5 x6 x7 x8 x9 x10 x11).br 1 t e := by
  pointwise [lay1, k0_pay27, argsOf]

theorem lay1_w1 (t : Fin 16) (e : Fin 4) (k : Fin 768) (f : Fin 1536) :
    (lay1 x0 x1 x2 x3 x4 x5 x6 x7 x8 x9 x10 x11).w1 (ix4 t e k f) = (argsOf x0 x1 x2 x3 x4 x5 x6 x7 x8 x9 x10 x11).w1 1 t e k f := by
  pointwise [lay1, k0_pay28, argsOf]

theorem lay1_s1 (t : Fin 16) (e : Fin 4) (f : Fin 1536) :
    (lay1 x0 x1 x2 x3 x4 x5 x6 x7 x8 x9 x10 x11).s1 (ix3 t e f) = (argsOf x0 x1 x2 x3 x4 x5 x6 x7 x8 x9 x10 x11).s1 1 t e f := by
  pointwise [lay1, k0_pay29, argsOf]

theorem lay1_b1 (t : Fin 16) (e : Fin 4) (f : Fin 1536) :
    (lay1 x0 x1 x2 x3 x4 x5 x6 x7 x8 x9 x10 x11).b1 (ix3 t e f) = (argsOf x0 x1 x2 x3 x4 x5 x6 x7 x8 x9 x10 x11).b1 1 t e f := by
  pointwise [lay1, k0_pay30, argsOf]

theorem lay1_w2 (t : Fin 16) (e : Fin 4) (f : Fin 1536) (k : Fin 768) :
    (lay1 x0 x1 x2 x3 x4 x5 x6 x7 x8 x9 x10 x11).w2 (ix4 t e f k) = (argsOf x0 x1 x2 x3 x4 x5 x6 x7 x8 x9 x10 x11).w2 1 t e f k := by
  pointwise [lay1, k0_pay31, argsOf]

theorem lay1_s2 (t : Fin 16) (e : Fin 4) (k : Fin 768) :
    (lay1 x0 x1 x2 x3 x4 x5 x6 x7 x8 x9 x10 x11).s2 (ix3 t e k) = (argsOf x0 x1 x2 x3 x4 x5 x6 x7 x8 x9 x10 x11).s2 1 t e k := by
  pointwise [lay1, k0_pay32, argsOf]

theorem lay1_g2 (k : Fin 768) :
    (lay1 x0 x1 x2 x3 x4 x5 x6 x7 x8 x9 x10 x11).g2 (ix1 k) = (argsOf x0 x1 x2 x3 x4 x5 x6 x7 x8 x9 x10 x11).g2 1 k := by
  pointwise [lay1, k0_pay33, argsOf]

theorem lay1_c2 (k : Fin 768) :
    (lay1 x0 x1 x2 x3 x4 x5 x6 x7 x8 x9 x10 x11).c2 (ix1 k) = (argsOf x0 x1 x2 x3 x4 x5 x6 x7 x8 x9 x10 x11).c2 1 k := by
  pointwise [lay1, k0_pay34, argsOf]

theorem lay0_par (t : Fin 16) : (lay0 x0 x1 x2 x3 x4 x5 x6 x7 x8 x9 x10 x11).par t = (argsOf x0 x1 x2 x3 x4 x5 x6 x7 x8 x9 x10 x11).par 0 t := by
  unfold Lay.par Args.par
  simp only [lay0_g1, lay0_c1, lay0_wr, lay0_br, lay0_w1, lay0_s1, lay0_b1, lay0_w2, lay0_s2, lay0_g2, lay0_c2]

theorem lay1_par (t : Fin 16) : (lay1 x0 x1 x2 x3 x4 x5 x6 x7 x8 x9 x10 x11).par t = (argsOf x0 x1 x2 x3 x4 x5 x6 x7 x8 x9 x10 x11).par 1 t := by
  unfold Lay.par Args.par
  simp only [lay1_g1, lay1_c1, lay1_wr, lay1_br, lay1_w1, lay1_s1, lay1_b1, lay1_w2, lay1_s2, lay1_g2, lay1_c2]

theorem lay0_row (b : Fin 4096) (t : Fin 16) : (lay0 x0 x1 x2 x3 x4 x5 x6 x7 x8 x9 x10 x11).row b t = (argsOf x0 x1 x2 x3 x4 x5 x6 x7 x8 x9 x10 x11).v0 b t := by
  funext k
  show mixV (k0_pay1 (View.ld x0 r0_0)) (ix3 b t k) = mix (argsOf x0 x1 x2 x3 x4 x5 x6 x7 x8 x9 x10 x11).x b t k
  rw [mixV_at]
  congr 1
  funext b t d
  pointwise [k0_pay1, argsOf]

theorem lay0_x2 (b : Fin 4096) (t : Fin 16) (d : Fin 768) :
    (lay0 x0 x1 x2 x3 x4 x5 x6 x7 x8 x9 x10 x11).X2 (ix3 b t d) = (argsOf x0 x1 x2 x3 x4 x5 x6 x7 x8 x9 x10 x11).y0 b t d := by
  rw [Lay.X2_at, lay0_par, lay0_row]; rfl

theorem lay1_row (b : Fin 4096) (t : Fin 16) : (lay1 x0 x1 x2 x3 x4 x5 x6 x7 x8 x9 x10 x11).row b t = (argsOf x0 x1 x2 x3 x4 x5 x6 x7 x8 x9 x10 x11).v1 b t := by
  funext k
  show mixV (lay0 x0 x1 x2 x3 x4 x5 x6 x7 x8 x9 x10 x11).X2 (ix3 b t k) = mix (argsOf x0 x1 x2 x3 x4 x5 x6 x7 x8 x9 x10 x11).y0 b t k
  rw [mixV_at]
  simp only [lay0_x2]

end Params

end Mixer.Whole
-- ==== Proof.WholeRun.lean ====
module

public import proofs.«01_k».proof.Proof.WholeArgs
public import proofs.«01_k».proof.Proof.Gen.ReferenceIdeal.Frame
public import Idealize.ShloMosaic.Lib.KernelVsHost
public import Idealize.ShloMosaic.Lib.Pipeline.ValueKit

@[expose] public section

/-!
The reference's run, with its results.
-/

set_option maxRecDepth 16384
set_option synthInstance.maxSize 4096
noncomputable section

namespace Mixer.Whole

open Idealize.ShloMosaic Idealize.ShloMosaic.TcCoe
open Idealize.SL.Sem
open Idealize.ShloMosaic.Pipeline (Dat Cfg Window)
open Cert.ReferenceIdeal Cert.ReferenceIdeal.Gen

variable (m : (ℓ : Loc nD τ sig) → Buf (Elt Ideal) ℓ) (ρ : Dev nD → PrngReg) (c : Dev nD)

theorem idx_0 : ∀ (t : Fin cfg0.N) (a), win0_0.index t a = 0 :=
  (by decide +kernel : ∀ (t : Fin grid0.N) (a), win0_0.index t a = 0)

theorem blk_0 (t : Fin cfg0.N) : (iblk m c 0 t : Vec Ideal S4096x16x768 .bf16) = m ((c : Thread nD τ).loc main_arg0) := by
  funext y
  blk_ext [iblk, idx_0 t]

theorem idx_1 : ∀ (t : Fin cfg0.N) (a), win0_1.index t a = 0 :=
  (by decide +kernel : ∀ (t : Fin grid0.N) (a), win0_1.index t a = 0)

theorem blk_1 (t : Fin cfg0.N) : (iblk m c 1 t : Vec Ideal S2x768 .f32) = m ((c : Thread nD τ).loc main_arg1) := by
  funext y
  blk_ext [iblk, idx_1 t]

theorem idx_2 : ∀ (t : Fin cfg0.N) (a), win0_2.index t a = 0 :=
  (by decide +kernel : ∀ (t : Fin grid0.N) (a), win0_2.index t a = 0)

theorem blk_2 (t : Fin cfg0.N) : (iblk m c 2 t : Vec Ideal S2x768 .f32) = m ((c : Thread nD τ).loc main_arg2) := by
  funext y
  blk_ext [iblk, idx_2 t]

theorem idx_3 : ∀ (t : Fin cfg0.N) (a), win0_3.index t a = 0 :=
  (by decide +kernel : ∀ (t : Fin grid0.N) (a), win0_3.index t a = 0)

theorem blk_3 (t : Fin cfg0.N) : (iblk m c 3 t : Vec Ideal S2x16x768x4 .f32) = m ((c : Thread nD τ).loc main_arg3) := by
  funext y
  blk_ext [iblk, idx_3 t]

theorem idx_4 : ∀ (t : Fin cfg0.N) (a), win0_4.index t a = 0 :=
  (by decide +kernel : ∀ (t : Fin grid0.N) (a), win0_4.index t a = 0)

theorem blk_4 (t : Fin cfg0.N) : (iblk m c 4 t : Vec Ideal S2x16x4 .f32) = m ((c : Thread nD τ).loc main_arg4) := by
  funext y
  blk_ext [iblk, idx_4 t]

theorem idx_5 : ∀ (t : Fin cfg0.N) (a), win0_5.index t a = 0 :=
  (by decide +kernel : ∀ (t : Fin grid0.N) (a), win0_5.index t a = 0)

theorem blk_5 (t : Fin cfg0.N) : (iblk m c 5 t : Vec Ideal S2x16x4x768x1536 .fp8e4m3) = m ((c : Thread nD τ).loc main_arg5) := by
  funext y
  blk_ext [iblk, idx_5 t]

theorem idx_6 : ∀ (t : Fin cfg0.N) (a), win0_6.index t a = 0 :=
  (by decide +kernel : ∀ (t : Fin grid0.N) (a), win0_6.index t a = 0)

theorem blk_6 (t : Fin cfg0.N) : (iblk m c 6 t : Vec Ideal S2x16x4x1536 .f32) = m ((c : Thread nD τ).loc main_arg6) := by
  funext y
  blk_ext [iblk, idx_6 t]

theorem idx_7 : ∀ (t : Fin cfg0.N) (a), win0_7.index t a = 0 :=
  (by decide +kernel : ∀ (t : Fin grid0.N) (a), win0_7.index t a = 0)

theorem blk_7 (t : Fin cfg0.N) : (iblk m c 7 t : Vec Ideal S2x16x4x1536 .f32) = m ((c : Thread nD τ).loc main_arg7) := by
  funext y
  blk_ext [iblk, idx_7 t]

theorem idx_8 : ∀ (t : Fin cfg0.N) (a), win0_8.index t a = 0 :=
  (by decide +kernel : ∀ (t : Fin grid0.N) (a), win0_8.index t a = 0)

theorem blk_8 (t : Fin cfg0.N) : (iblk m c 8 t : Vec Ideal S2x16x4x1536x768 .fp8e4m3) = m ((c : Thread nD τ).loc main_arg8) := by
  funext y
  blk_ext [iblk, idx_8 t]

theorem idx_9 : ∀ (t : Fin cfg0.N) (a), win0_9.index t a = 0 :=
  (by decide +kernel : ∀ (t : Fin grid0.N) (a), win0_9.index t a = 0)

theorem blk_9 (t : Fin cfg0.N) : (iblk m c 9 t : Vec Ideal S2x16x4x768 .f32) = m ((c : Thread nD τ).loc main_arg9) := by
  funext y
  blk_ext [iblk, idx_9 t]

theorem idx_10 : ∀ (t : Fin cfg0.N) (a), win0_10.index t a = 0 :=
  (by decide +kernel : ∀ (t : Fin grid0.N) (a), win0_10.index t a = 0)

theorem blk_10 (t : Fin cfg0.N) : (iblk m c 10 t : Vec Ideal S2x768 .f32) = m ((c : Thread nD τ).loc main_arg10) := by
  funext y
  blk_ext [iblk, idx_10 t]

theorem idx_11 : ∀ (t : Fin cfg0.N) (a), win0_11.index t a = 0 :=
  (by decide +kernel : ∀ (t : Fin grid0.N) (a), win0_11.index t a = 0)

theorem blk_11 (t : Fin cfg0.N) : (iblk m c 11 t : Vec Ideal S2x768 .f32) = m ((c : Thread nD τ).loc main_arg11) := by
  funext y
  blk_ext [iblk, idx_11 t]

/-- The first layer, from the arguments. -/
def L0 : Lay Ideal := lay0 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11))

/-- The second layer, from the arguments. -/
def L1 : Lay Ideal := lay1 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11))

/-- The arguments that the reference is given. -/
def argsR : Args := argsOf (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11))

theorem out0 (t : Fin cfg0.N) : out0_12 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) = (L1 m c).QC := by
  rw [blk_0, blk_1, blk_2, blk_3, blk_4, blk_5, blk_6, blk_7, blk_8, blk_9, blk_10, blk_11]
  exact o12 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11))

theorem aft0 (t : Fin cfg0.N) : (dats m 0 c).after 12 t = (L1 m c).QC :=
  (after0_12 m c t).trans (out0 m c t)

theorem ofAft0 (G : Buf (Elt Ideal) ((c : Thread nD τ).loc main_v0_0)) (h : ∀ t, (dats m 0 c).after 12 t = G) :
    (dats m 0 c).arrAt 12 cfg0.N = G := by
  refine (dats m 0 c).arrAt_eq_of_after_last 12 ⟨0, by decide⟩ (by decide +kernel) _ fun j => ?_
  rw [h]
  blk_simp

theorem arr0 : (dats m 0 c).arrAt 12 cfg0.N = (L1 m c).QC := ofAft0 m c _ (aft0 m c)

theorem out1 (t : Fin cfg0.N) : out0_13 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) = (L1 m c).QS := by
  rw [blk_0, blk_1, blk_2, blk_3, blk_4, blk_5, blk_6, blk_7, blk_8, blk_9, blk_10, blk_11]
  exact o13 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11))

theorem aft1 (t : Fin cfg0.N) : (dats m 0 c).after 13 t = (L1 m c).QS :=
  (after0_13 m c t).trans (out1 m c t)

theorem ofAft1 (G : Buf (Elt Ideal) ((c : Thread nD τ).loc main_v0_1)) (h : ∀ t, (dats m 0 c).after 13 t = G) :
    (dats m 0 c).arrAt 13 cfg0.N = G := by
  refine (dats m 0 c).arrAt_eq_of_after_last 13 ⟨0, by decide⟩ (by decide +kernel) _ fun j => ?_
  rw [h]
  blk_simp

theorem arr1 : (dats m 0 c).arrAt 13 cfg0.N = (L1 m c).QS := ofAft1 m c _ (aft1 m c)

theorem out2 (t : Fin cfg0.N) : out0_14 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) = (L1 m c).G := by
  rw [blk_0, blk_1, blk_2, blk_3, blk_4, blk_5, blk_6, blk_7, blk_8, blk_9, blk_10, blk_11]
  exact o14 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11))

theorem aft2 (t : Fin cfg0.N) : (dats m 0 c).after 14 t = (L1 m c).G :=
  (after0_14 m c t).trans (out2 m c t)

theorem ofAft2 (G : Buf (Elt Ideal) ((c : Thread nD τ).loc main_v0_2)) (h : ∀ t, (dats m 0 c).after 14 t = G) :
    (dats m 0 c).arrAt 14 cfg0.N = G := by
  refine (dats m 0 c).arrAt_eq_of_after_last 14 ⟨0, by decide⟩ (by decide +kernel) _ fun j => ?_
  rw [h]
  blk_simp

theorem arr2 : (dats m 0 c).arrAt 14 cfg0.N = (L1 m c).G := ofAft2 m c _ (aft2 m c)

theorem out3 (t : Fin cfg0.N) : out0_15 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) = (L1 m c).MG := by
  rw [blk_0, blk_1, blk_2, blk_3, blk_4, blk_5, blk_6, blk_7, blk_8, blk_9, blk_10, blk_11]
  exact o15 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11))

theorem aft3 (t : Fin cfg0.N) : (dats m 0 c).after 15 t = (L1 m c).MG :=
  (after0_15 m c t).trans (out3 m c t)

theorem ofAft3 (G : Buf (Elt Ideal) ((c : Thread nD τ).loc main_v0_3)) (h : ∀ t, (dats m 0 c).after 15 t = G) :
    (dats m 0 c).arrAt 15 cfg0.N = G := by
  refine (dats m 0 c).arrAt_eq_of_after_last 15 ⟨0, by decide⟩ (by decide +kernel) _ fun j => ?_
  rw [h]
  blk_simp

theorem arr3 : (dats m 0 c).arrAt 15 cfg0.N = (L1 m c).MG := ofAft3 m c _ (aft3 m c)

theorem out4 (t : Fin cfg0.N) : out0_16 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) = (L0 m c).M := by
  rw [blk_0, blk_1, blk_2, blk_3, blk_4, blk_5, blk_6, blk_7, blk_8, blk_9, blk_10, blk_11]
  exact o16 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11))

theorem aft4 (t : Fin cfg0.N) : (dats m 0 c).after 16 t = (L0 m c).M :=
  (after0_16 m c t).trans (out4 m c t)

theorem ofAft4 (G : Buf (Elt Ideal) ((c : Thread nD τ).loc main_v0_4)) (h : ∀ t, (dats m 0 c).after 16 t = G) :
    (dats m 0 c).arrAt 16 cfg0.N = G := by
  refine (dats m 0 c).arrAt_eq_of_after_last 16 ⟨0, by decide⟩ (by decide +kernel) _ fun j => ?_
  rw [h]
  blk_simp

theorem arr4 : (dats m 0 c).arrAt 16 cfg0.N = (L0 m c).M := ofAft4 m c _ (aft4 m c)

theorem out5 (t : Fin cfg0.N) : out0_17 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) = (L0 m c).UA := by
  rw [blk_0, blk_1, blk_2, blk_3, blk_4, blk_5, blk_6, blk_7, blk_8, blk_9, blk_10, blk_11]
  exact o17 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11))

theorem aft5 (t : Fin cfg0.N) : (dats m 0 c).after 17 t = (L0 m c).UA :=
  (after0_17 m c t).trans (out5 m c t)

theorem ofAft5 (G : Buf (Elt Ideal) ((c : Thread nD τ).loc main_v0_5)) (h : ∀ t, (dats m 0 c).after 17 t = G) :
    (dats m 0 c).arrAt 17 cfg0.N = G := by
  refine (dats m 0 c).arrAt_eq_of_after_last 17 ⟨0, by decide⟩ (by decide +kernel) _ fun j => ?_
  rw [h]
  blk_simp

theorem arr5 : (dats m 0 c).arrAt 17 cfg0.N = (L0 m c).UA := ofAft5 m c _ (aft5 m c)

theorem out6 (t : Fin cfg0.N) : out0_18 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) = (L0 m c).XC := by
  rw [blk_0, blk_1, blk_2, blk_3, blk_4, blk_5, blk_6, blk_7, blk_8, blk_9, blk_10, blk_11]
  exact o18 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11))

theorem aft6 (t : Fin cfg0.N) : (dats m 0 c).after 18 t = (L0 m c).XC :=
  (after0_18 m c t).trans (out6 m c t)

theorem ofAft6 (G : Buf (Elt Ideal) ((c : Thread nD τ).loc main_v0_6)) (h : ∀ t, (dats m 0 c).after 18 t = G) :
    (dats m 0 c).arrAt 18 cfg0.N = G := by
  refine (dats m 0 c).arrAt_eq_of_after_last 18 ⟨0, by decide⟩ (by decide +kernel) _ fun j => ?_
  rw [h]
  blk_simp

theorem arr6 : (dats m 0 c).arrAt 18 cfg0.N = (L0 m c).XC := ofAft6 m c _ (aft6 m c)

theorem out7 (t : Fin cfg0.N) : out0_19 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) = (L0 m c).XS := by
  rw [blk_0, blk_1, blk_2, blk_3, blk_4, blk_5, blk_6, blk_7, blk_8, blk_9, blk_10, blk_11]
  exact o19 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11))

theorem aft7 (t : Fin cfg0.N) : (dats m 0 c).after 19 t = (L0 m c).XS :=
  (after0_19 m c t).trans (out7 m c t)

theorem ofAft7 (G : Buf (Elt Ideal) ((c : Thread nD τ).loc main_v0_7)) (h : ∀ t, (dats m 0 c).after 19 t = G) :
    (dats m 0 c).arrAt 19 cfg0.N = G := by
  refine (dats m 0 c).arrAt_eq_of_after_last 19 ⟨0, by decide⟩ (by decide +kernel) _ fun j => ?_
  rw [h]
  blk_simp

theorem arr7 : (dats m 0 c).arrAt 19 cfg0.N = (L0 m c).XS := ofAft7 m c _ (aft7 m c)

theorem out8 (t : Fin cfg0.N) : out0_20 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) = (L0 m c).UC := by
  rw [blk_0, blk_1, blk_2, blk_3, blk_4, blk_5, blk_6, blk_7, blk_8, blk_9, blk_10, blk_11]
  exact o20 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11))

theorem aft8 (t : Fin cfg0.N) : (dats m 0 c).after 20 t = (L0 m c).UC :=
  (after0_20 m c t).trans (out8 m c t)

theorem ofAft8 (G : Buf (Elt Ideal) ((c : Thread nD τ).loc main_v0_8)) (h : ∀ t, (dats m 0 c).after 20 t = G) :
    (dats m 0 c).arrAt 20 cfg0.N = G := by
  refine (dats m 0 c).arrAt_eq_of_after_last 20 ⟨0, by decide⟩ (by decide +kernel) _ fun j => ?_
  rw [h]
  blk_simp

theorem arr8 : (dats m 0 c).arrAt 20 cfg0.N = (L0 m c).UC := ofAft8 m c _ (aft8 m c)

theorem out9 (t : Fin cfg0.N) : out0_21 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) = (L0 m c).US := by
  rw [blk_0, blk_1, blk_2, blk_3, blk_4, blk_5, blk_6, blk_7, blk_8, blk_9, blk_10, blk_11]
  exact o21 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11))

theorem aft9 (t : Fin cfg0.N) : (dats m 0 c).after 21 t = (L0 m c).US :=
  (after0_21 m c t).trans (out9 m c t)

theorem ofAft9 (G : Buf (Elt Ideal) ((c : Thread nD τ).loc main_v0_9)) (h : ∀ t, (dats m 0 c).after 21 t = G) :
    (dats m 0 c).arrAt 21 cfg0.N = G := by
  refine (dats m 0 c).arrAt_eq_of_after_last 21 ⟨0, by decide⟩ (by decide +kernel) _ fun j => ?_
  rw [h]
  blk_simp

theorem arr9 : (dats m 0 c).arrAt 21 cfg0.N = (L0 m c).US := ofAft9 m c _ (aft9 m c)

/-- The reference's results and arguments at the end of a run. -/
theorem run_results : θ_run defs (onTc (τ := τ) (main (F := Ideal))) ⟨m, fun _ => 0, ρ⟩ (fun r => ∀ c : Dev nD,
      r.2.mem ((c.tc : Thread nD τ).loc main_v0_0) = (L1 m c).QC
      ∧ r.2.mem ((c.tc : Thread nD τ).loc main_v0_1) = (L1 m c).QS
      ∧ r.2.mem ((c.tc : Thread nD τ).loc main_v0_2) = (L1 m c).G
      ∧ r.2.mem ((c.tc : Thread nD τ).loc main_v0_3) = (L1 m c).MG
      ∧ r.2.mem ((c.tc : Thread nD τ).loc main_v0_4) = (L0 m c).M
      ∧ r.2.mem ((c.tc : Thread nD τ).loc main_v0_5) = (L0 m c).UA
      ∧ r.2.mem ((c.tc : Thread nD τ).loc main_v0_6) = (L0 m c).XC
      ∧ r.2.mem ((c.tc : Thread nD τ).loc main_v0_7) = (L0 m c).XS
      ∧ r.2.mem ((c.tc : Thread nD τ).loc main_v0_8) = (L0 m c).UC
      ∧ r.2.mem ((c.tc : Thread nD τ).loc main_v0_9) = (L0 m c).US
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun _ h c =>
    ⟨((h.1 c).1 12).trans (arr0 m c),
     ((h.1 c).1 13).trans (arr1 m c),
     ((h.1 c).1 14).trans (arr2 m c),
     ((h.1 c).1 15).trans (arr3 m c),
     ((h.1 c).1 16).trans (arr4 m c),
     ((h.1 c).1 17).trans (arr5 m c),
     ((h.1 c).1 18).trans (arr6 m c),
     ((h.1 c).1 19).trans (arr7 m c),
     ((h.1 c).1 20).trans (arr8 m c),
     ((h.1 c).1 21).trans (arr9 m c), h.2 c⟩)
    (θ_run_and (run_main m ρ) (unchanged m ρ))

end Mixer.Whole
-- ==== Proof.Result.lean ====
module

public import proofs.«01_k».proof.Proof.KernelResults
public import proofs.«01_k».proof.Proof.KernelRun
public import proofs.«01_k».proof.Proof.WholeRun
public import proofs.«01_k».proof.Defs

@[expose] public section

/-!
The kernel's results are the reference's.
-/

set_option maxRecDepth 16384
noncomputable section

namespace Mixer

open Idealize.ShloMosaic Idealize.ShloMosaic.TcCoe
open Idealize.SL.Sem

variable (m : (ℓ : Loc Cert.KernelIdeal.nD Cert.KernelIdeal.τ Cert.KernelIdeal.sig) → Buf (Elt Ideal) ℓ) (ρ : Dev Cert.KernelIdeal.nD → PrngReg)
  (m' : (ℓ : Loc Cert.ReferenceIdeal.nD Cert.ReferenceIdeal.τ Cert.ReferenceIdeal.sig) → Buf (Elt Ideal) ℓ) (c : Dev Cert.KernelIdeal.nD)

/-! ## The reference's results at one position -/

theorem ref0 (b : Fin 4096) (t : Fin 16) (d : Fin 768) : (Whole.L1 m' c).QC (ix3 b t d) = ((Whole.argsR m' c).par 1 t).qc ((Whole.argsR m' c).v1 b t) d := by
  rw [Whole.Lay.QC_at]
  unfold Whole.L1
  rw [Whole.lay1_par, Whole.lay1_row]
  rfl

theorem ref1 (b : Fin 4096) (t : Fin 16) : (Whole.L1 m' c).QS (ix2 b t) = ((Whole.argsR m' c).par 1 t).qs ((Whole.argsR m' c).v1 b t) := by
  rw [Whole.Lay.QS_at]
  unfold Whole.L1
  rw [Whole.lay1_par, Whole.lay1_row]
  rfl

theorem ref2 (b : Fin 4096) (t : Fin 16) (e : Fin 4) : (Whole.L1 m' c).G (ix3 b t e) = ((Whole.argsR m' c).par 1 t).gate ((Whole.argsR m' c).v1 b t) e := by
  rw [Whole.Lay.G_at]
  unfold Whole.L1
  rw [Whole.lay1_par, Whole.lay1_row]
  rfl

theorem ref3 (t : Fin 16) (e : Fin 4) : (Whole.L1 m' c).MG (ix2 t e) = (Whole.argsR m' c).mg t e := by
  rw [Whole.Lay.MG_at]
  simp only [Whole.L1, Whole.lay1_par, Whole.lay1_row]
  rfl

theorem ref4 (b : Fin 4096) (t : Fin 16) (d : Fin 768) : (Whole.L0 m' c).M (ix3 b t d) = ((Whole.argsR m' c).par 0 t).moe ((Whole.argsR m' c).v0 b t) d := by
  rw [Whole.Lay.M_at]
  unfold Whole.L0
  rw [Whole.lay0_par, Whole.lay0_row]
  rfl

theorem ref5 (b : Fin 4096) (t : Fin 16) (e : Fin 4) : (Whole.L0 m' c).UA (ix3 b t e) = ((Whole.argsR m' c).par 0 t).ua ((Whole.argsR m' c).v0 b t) e := by
  rw [Whole.Lay.UA_at]
  unfold Whole.L0
  rw [Whole.lay0_par, Whole.lay0_row]
  rfl

theorem ref6 (b : Fin 4096) (t : Fin 16) (d : Fin 768) : (Whole.L0 m' c).XC (ix3 b t d) = ((Whole.argsR m' c).par 0 t).xc ((Whole.argsR m' c).v0 b t) d := by
  rw [Whole.Lay.XC_at]
  unfold Whole.L0
  rw [Whole.lay0_par, Whole.lay0_row]
  rfl

theorem ref7 (b : Fin 4096) (t : Fin 16) : (Whole.L0 m' c).XS (ix2 b t) = ((Whole.argsR m' c).par 0 t).xs ((Whole.argsR m' c).v0 b t) := by
  rw [Whole.Lay.XS_at]
  unfold Whole.L0
  rw [Whole.lay0_par, Whole.lay0_row]
  rfl

theorem ref8 (b : Fin 4096) (t : Fin 16) (e : Fin 4) (f : Fin 1536) : (Whole.L0 m' c).UC (ix4 b t e f) = ((Whole.argsR m' c).par 0 t).uc ((Whole.argsR m' c).v0 b t) e f := by
  rw [Whole.Lay.UC_at]
  unfold Whole.L0
  rw [Whole.lay0_par, Whole.lay0_row]
  rfl

theorem ref9 (b : Fin 4096) (t : Fin 16) (e : Fin 4) : (Whole.L0 m' c).US (ix3 b t e) = ((Whole.argsR m' c).par 0 t).us ((Whole.argsR m' c).v0 b t) e := by
  rw [Whole.Lay.US_at]
  unfold Whole.L0
  rw [Whole.lay0_par, Whole.lay0_row]
  rfl

/-! ## The arguments are the same -/

theorem argsOf_congr {x0 y0 : Vec Ideal Cert.ReferenceIdeal.S4096x16x768 .bf16} {x1 y1 : Vec Ideal Cert.ReferenceIdeal.S2x768 .f32} {x2 y2 : Vec Ideal Cert.ReferenceIdeal.S2x768 .f32} {x3 y3 : Vec Ideal Cert.ReferenceIdeal.S2x16x768x4 .f32} {x4 y4 : Vec Ideal Cert.ReferenceIdeal.S2x16x4 .f32} {x5 y5 : Vec Ideal Cert.ReferenceIdeal.S2x16x4x768x1536 .fp8e4m3} {x6 y6 : Vec Ideal Cert.ReferenceIdeal.S2x16x4x1536 .f32} {x7 y7 : Vec Ideal Cert.ReferenceIdeal.S2x16x4x1536 .f32} {x8 y8 : Vec Ideal Cert.ReferenceIdeal.S2x16x4x1536x768 .fp8e4m3} {x9 y9 : Vec Ideal Cert.ReferenceIdeal.S2x16x4x768 .f32} {x10 y10 : Vec Ideal Cert.ReferenceIdeal.S2x768 .f32} {x11 y11 : Vec Ideal Cert.ReferenceIdeal.S2x768 .f32}
    (h0 : x0 = y0) (h1 : x1 = y1) (h2 : x2 = y2) (h3 : x3 = y3) (h4 : x4 = y4) (h5 : x5 = y5) (h6 : x6 = y6) (h7 : x7 = y7) (h8 : x8 = y8) (h9 : x9 = y9) (h10 : x10 = y10) (h11 : x11 = y11) :
    Whole.argsOf x0 x1 x2 x3 x4 x5 x6 x7 x8 x9 x10 x11 = Whole.argsOf y0 y1 y2 y3 y4 y5 y6 y7 y8 y9 y10 y11 := by
  subst h0 h1 h2 h3 h4 h5 h6 h7 h8 h9 h10 h11
  rfl

theorem args_eq
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (h4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (h5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5))
    (h6 : m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6))
    (h7 : m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7))
    (h8 : m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8))
    (h9 : m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9))
    (h10 : m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10))
    (h11 : m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) :
    Whole.argsR m' c = argsK m c :=
  (argsOf_congr h0 h1 h2 h3 h4 h5 h6 h7 h8 h9 h10 h11).trans rfl

/-! ## The results are the same -/

theorem same0 (h : Whole.argsR m' c = argsK m c) :
    ((Whole.L1 m' c).QC : Cert.ReferenceIdeal.S4096x16x768.Idx → EReal) = Cert.KernelIdeal.Gen.W13 m ρ c (Proc.devRef .tc Cert.KernelIdeal.main_v23) := by
  funext i
  rw [eq_ix3 i]
  refine (ref0 m' c (i 0) (i 1) (i 2)).trans ?_
  rw [h]
  exact (r0 m ρ c (i 0) (i 1) (i 2)).symm

theorem same1 (h : Whole.argsR m' c = argsK m c) :
    ((Whole.L1 m' c).QS : Cert.ReferenceIdeal.S4096x16.Idx → EReal) = Cert.KernelIdeal.Gen.W13 m ρ c (Proc.devRef .tc Cert.KernelIdeal.main_v25) := by
  funext i
  rw [eq_ix2 i]
  refine (ref1 m' c (i 0) (i 1)).trans ?_
  rw [h]
  exact (r1 m ρ c (i 0) (i 1)).symm

theorem same2 (h : Whole.argsR m' c = argsK m c) :
    ((Whole.L1 m' c).G : Cert.ReferenceIdeal.S4096x16x4.Idx → EReal) = Cert.KernelIdeal.Gen.W13 m ρ c (Proc.devRef .tc Cert.KernelIdeal.main_v27) := by
  funext i
  rw [eq_ix3 i]
  refine (ref2 m' c (i 0) (i 1) (i 2)).trans ?_
  rw [h]
  exact (r2 m ρ c (i 0) (i 1) (i 2)).symm

theorem same3 (h : Whole.argsR m' c = argsK m c) :
    ((Whole.L1 m' c).MG : Cert.ReferenceIdeal.S16x4.Idx → EReal) = Cert.KernelIdeal.Gen.W13 m ρ c (Proc.devRef .tc Cert.KernelIdeal.main_v31) := by
  funext i
  rw [eq_ix2 i]
  refine (ref3 m' c (i 0) (i 1)).trans ?_
  rw [h]
  exact (r3 m ρ c (i 0) (i 1)).symm

theorem same4 (h : Whole.argsR m' c = argsK m c) :
    ((Whole.L0 m' c).M : Cert.ReferenceIdeal.S4096x16x768.Idx → EReal) = Cert.KernelIdeal.Gen.W13 m ρ c (Proc.devRef .tc Cert.KernelIdeal.main_v32) := by
  funext i
  rw [eq_ix3 i]
  refine (ref4 m' c (i 0) (i 1) (i 2)).trans ?_
  rw [h]
  exact (r4 m ρ c (i 0) (i 1) (i 2)).symm

theorem same5 (h : Whole.argsR m' c = argsK m c) :
    ((Whole.L0 m' c).UA : Cert.ReferenceIdeal.S4096x16x4.Idx → EReal) = Cert.KernelIdeal.Gen.W13 m ρ c (Proc.devRef .tc Cert.KernelIdeal.main_v34) := by
  funext i
  rw [eq_ix3 i]
  refine (ref5 m' c (i 0) (i 1) (i 2)).trans ?_
  rw [h]
  exact (r5 m ρ c (i 0) (i 1) (i 2)).symm

theorem same6 (h : Whole.argsR m' c = argsK m c) :
    ((Whole.L0 m' c).XC : Cert.ReferenceIdeal.S4096x16x768.Idx → EReal) = Cert.KernelIdeal.Gen.W13 m ρ c (Proc.devRef .tc Cert.KernelIdeal.main_v35) := by
  funext i
  rw [eq_ix3 i]
  refine (ref6 m' c (i 0) (i 1) (i 2)).trans ?_
  rw [h]
  exact (r6 m ρ c (i 0) (i 1) (i 2)).symm

theorem same7 (h : Whole.argsR m' c = argsK m c) :
    ((Whole.L0 m' c).XS : Cert.ReferenceIdeal.S4096x16.Idx → EReal) = Cert.KernelIdeal.Gen.W13 m ρ c (Proc.devRef .tc Cert.KernelIdeal.main_v37) := by
  funext i
  rw [eq_ix2 i]
  refine (ref7 m' c (i 0) (i 1)).trans ?_
  rw [h]
  exact (r7 m ρ c (i 0) (i 1)).symm

theorem same8 (h : Whole.argsR m' c = argsK m c) :
    ((Whole.L0 m' c).UC : Cert.ReferenceIdeal.S4096x16x4x1536.Idx → EReal) = Cert.KernelIdeal.Gen.W13 m ρ c (Proc.devRef .tc Cert.KernelIdeal.main_v38) := by
  funext i
  rw [eq_ix4 i]
  refine (ref8 m' c (i 0) (i 1) (i 2) (i 3)).trans ?_
  rw [h]
  exact (r8 m ρ c (i 0) (i 1) (i 2) (i 3)).symm

theorem same9 (h : Whole.argsR m' c = argsK m c) :
    ((Whole.L0 m' c).US : Cert.ReferenceIdeal.S4096x16x4.Idx → EReal) = Cert.KernelIdeal.Gen.W13 m ρ c (Proc.devRef .tc Cert.KernelIdeal.main_v40) := by
  funext i
  rw [eq_ix3 i]
  refine (ref9 m' c (i 0) (i 1) (i 2)).trans ?_
  rw [h]
  exact (r9 m ρ c (i 0) (i 1) (i 2)).symm

/-- The kernel and the reference, from equal arguments, end with equal results. -/
theorem algebraic :
    Cert.algebraic_KernelIdeal_ReferenceIdeal (hKernelIdeal := Cert.KernelIdeal.Gen.facts) (hReferenceIdeal := Cert.ReferenceIdeal.Gen.facts) := by
  intro m ρ m' ρ' _ h
  have ha : ∀ c, Whole.argsR m' c = argsK m c := fun c => by
    obtain ⟨h0, h1, h2, h3, h4, h5, h6, h7, h8, h9, h10, h11⟩ := h c
    exact args_eq m m' c h0 h1 h2 h3 h4 h5 h6 h7 h8 h9 h10 h11
  refine ⟨fun c => Cert.KernelIdeal.Gen.W13 m ρ c (Proc.devRef .tc Cert.KernelIdeal.main_v23),
    fun c => Cert.KernelIdeal.Gen.W13 m ρ c (Proc.devRef .tc Cert.KernelIdeal.main_v25),
    fun c => Cert.KernelIdeal.Gen.W13 m ρ c (Proc.devRef .tc Cert.KernelIdeal.main_v27),
    fun c => Cert.KernelIdeal.Gen.W13 m ρ c (Proc.devRef .tc Cert.KernelIdeal.main_v31),
    fun c => Cert.KernelIdeal.Gen.W13 m ρ c (Proc.devRef .tc Cert.KernelIdeal.main_v32),
    fun c => Cert.KernelIdeal.Gen.W13 m ρ c (Proc.devRef .tc Cert.KernelIdeal.main_v34),
    fun c => Cert.KernelIdeal.Gen.W13 m ρ c (Proc.devRef .tc Cert.KernelIdeal.main_v35),
    fun c => Cert.KernelIdeal.Gen.W13 m ρ c (Proc.devRef .tc Cert.KernelIdeal.main_v37),
    fun c => Cert.KernelIdeal.Gen.W13 m ρ c (Proc.devRef .tc Cert.KernelIdeal.main_v38),
    fun c => Cert.KernelIdeal.Gen.W13 m ρ c (Proc.devRef .tc Cert.KernelIdeal.main_v40),
    run_results m ρ, (θ_run _ _ _).mono (fun r hr c => ?_) (Whole.run_results m' ρ')⟩
  obtain ⟨e0, e1, e2, e3, e4, e5, e6, e7, e8, e9, hx⟩ := hr c
  exact ⟨e0.trans (same0 m ρ m' c (ha c)),
    e1.trans (same1 m ρ m' c (ha c)),
    e2.trans (same2 m ρ m' c (ha c)),
    e3.trans (same3 m ρ m' c (ha c)),
    e4.trans (same4 m ρ m' c (ha c)),
    e5.trans (same5 m ρ m' c (ha c)),
    e6.trans (same6 m ρ m' c (ha c)),
    e7.trans (same7 m ρ m' c (ha c)),
    e8.trans (same8 m ρ m' c (ha c)),
    e9.trans (same9 m ρ m' c (ha c)), hx⟩

end Mixer
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.Reference
public import proofs.«01_k».proof.Proof.Gen.Reference.Skeleton
public import proofs.«01_k».proof.Proof.Gen.Reference.Launch
public import proofs.«01_k».proof.Proof.Gen.Reference.Points
public import proofs.«01_k».proof.Proof.Gen.Reference.Frame
public import proofs.«01_k».proof.Proof.Result
public import Idealize.ShloMosaic.Adequacy
public import Idealize.ShloMosaic.Init

@[expose] public section

noncomputable section

namespace Cert.Proof

open Idealize.ShloMosaic Idealize.SL.Sem Cert.Kernel

theorem claim : Cert.Claim :=
  ⟨Cert.Kernel.Gen.facts, Cert.KernelIdeal.Gen.facts, Cert.ReferenceIdeal.Gen.facts, Cert.Reference.Gen.facts,
    fun m ρ _ => Cert.Kernel.Gen.frame m ρ,
    fun m ρ _ => Cert.KernelIdeal.Gen.frame m ρ,
    fun m ρ _ => Cert.ReferenceIdeal.Gen.frame m ρ,
    fun m ρ _ => Cert.Reference.Gen.frame m ρ,
    IdealRules.named_const.statement Cert.KernelIdeal.κ "inv_sqrt_2" .f32 0x3F3504F3#32 (((Real.sqrt 2)⁻¹ : ℝ) : EReal) rfl,
    IdealRules.named_const.statement Cert.ReferenceIdeal.κ "sqrt_2" .f32 0x3FB504F3#32 ((Real.sqrt 2 : ℝ) : EReal) rfl,
    Mixer.algebraic⟩

end Cert.Proof

end
